-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S1 : Shape := ⟨1, ![1]⟩
abbrev S4096x128 : Shape := ⟨2, ![4096, 128]⟩
abbrev S256x2048 : Shape := ⟨2, ![256, 2048]⟩
abbrev S16 : Shape := ⟨1, ![16]⟩
abbrev S_ : Shape := ⟨0, ![]⟩
abbrev S256x128 : Shape := ⟨2, ![256, 128]⟩

abbrev nBuf : Space → Nat
  | .hbm => 5
  | .vmem => 4
  | .smem => 2
  | _ => 0

abbrev bufTy : (tb : Table) → Fin (tcTables nBuf tb) → BufTy
  | .hbm, ⟨0, _⟩ => ⟨S256x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .fp8e5m2⟩
  | .local _ .vmem, ⟨1, _⟩ => ⟨S4096x2048, .fp8e5m2⟩
  | .local _ .vmem, ⟨2, _⟩ => ⟨S4096x128, .f32⟩
  | .local _ .vmem, ⟨3, _⟩ => ⟨S256x2048, .f32⟩
  | .local _ .smem, ⟨0, _⟩ => ⟨S1, .f32⟩
  | .local _ .smem, ⟨1, _⟩ => ⟨S1, .f32⟩
  | _, _ => ⟨S256x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v82 : BitVec 32 := Scalar.muli v2 c256_i32
  let c0_i32_74 : BitVec 32 := 0#32
  ![v82.toNat, 0]
def k0_off2 (d0 : Dev nD) (c1_i32_68 : BitVec 32) : Fin 2 → Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v79 : BitVec 32 := Scalar.addi v2 c1_i32_68
  let c16_i32_69 : BitVec 32 := 16#32
  let v80 : BitVec 32 := Scalar.remsi v79 c16_i32_69
  let c128_i32 : BitVec 32 := 128#32
  let v81 : BitVec 32 := Scalar.muli v80 c128_i32
  ![0, v81.toNat]
def k0_dev16 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_68 : BitVec 32 := 1#32
  let v79 : BitVec 32 := Scalar.addi v2 c1_i32_68
  let c16_i32_69 : BitVec 32 := 16#32
  let v80 : BitVec 32 := Scalar.remsi v79 c16_i32_69
  let c1_i32_72 : BitVec 32 := 1#32
  let v83 : BitVec 32 := Scalar.muli v80 c1_i32_72
  let v84 : BitVec 32 := Scalar.addi c0_i32_73 v83
  v84.toNat
def k0_dev17 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_76 : BitVec 32 := 2#32
  let v91 : BitVec 32 := Scalar.addi v2 c2_i32_76
  let c16_i32_77 : BitVec 32 := 16#32
  let v92 : BitVec 32 := Scalar.remsi v91 c16_i32_77
  let c1_i32_82 : BitVec 32 := 1#32
  let v95 : BitVec 32 := Scalar.muli v92 c1_i32_82
  let v96 : BitVec 32 := Scalar.addi c0_i32_83 v95
  v96.toNat
def k0_dev18 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_86 : BitVec 32 := 3#32
  let v103 : BitVec 32 := Scalar.addi v2 c3_i32_86
  let c16_i32_87 : BitVec 32 := 16#32
  let v104 : BitVec 32 := Scalar.remsi v103 c16_i32_87
  let c1_i32_92 : BitVec 32 := 1#32
  let v107 : BitVec 32 := Scalar.muli v104 c1_i32_92
  let v108 : BitVec 32 := Scalar.addi c0_i32_93 v107
  v108.toNat
def k0_dev19 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_96 : BitVec 32 := 4#32
  let v115 : BitVec 32 := Scalar.addi v2 c4_i32_96
  let c16_i32_97 : BitVec 32 := 16#32
  let v116 : BitVec 32 := Scalar.remsi v115 c16_i32_97
  let c1_i32_102 : BitVec 32 := 1#32
  let v119 : BitVec 32 := Scalar.muli v116 c1_i32_102
  let v120 : BitVec 32 := Scalar.addi c0_i32_103 v119
  v120.toNat
def k0_dev20 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_106 : BitVec 32 := 5#32
  let v127 : BitVec 32 := Scalar.addi v2 c5_i32_106
  let c16_i32_107 : BitVec 32 := 16#32
  let v128 : BitVec 32 := Scalar.remsi v127 c16_i32_107
  let c1_i32_112 : BitVec 32 := 1#32
  let v131 : BitVec 32 := Scalar.muli v128 c1_i32_112
  let v132 : BitVec 32 := Scalar.addi c0_i32_113 v131
  v132.toNat
def k0_dev21 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_116 : BitVec 32 := 6#32
  let v139 : BitVec 32 := Scalar.addi v2 c6_i32_116
  let c16_i32_117 : BitVec 32 := 16#32
  let v140 : BitVec 32 := Scalar.remsi v139 c16_i32_117
  let c1_i32_122 : BitVec 32 := 1#32
  let v143 : BitVec 32 := Scalar.muli v140 c1_i32_122
  let v144 : BitVec 32 := Scalar.addi c0_i32_123 v143
  v144.toNat
def k0_dev22 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_126 : BitVec 32 := 7#32
  let v151 : BitVec 32 := Scalar.addi v2 c7_i32_126
  let c16_i32_127 : BitVec 32 := 16#32
  let v152 : BitVec 32 := Scalar.remsi v151 c16_i32_127
  let c1_i32_132 : BitVec 32 := 1#32
  let v155 : BitVec 32 := Scalar.muli v152 c1_i32_132
  let v156 : BitVec 32 := Scalar.addi c0_i32_133 v155
  v156.toNat
def k0_dev23 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_136 : BitVec 32 := 8#32
  let v163 : BitVec 32 := Scalar.addi v2 c8_i32_136
  let c16_i32_137 : BitVec 32 := 16#32
  let v164 : BitVec 32 := Scalar.remsi v163 c16_i32_137
  let c1_i32_142 : BitVec 32 := 1#32
  let v167 : BitVec 32 := Scalar.muli v164 c1_i32_142
  let v168 : BitVec 32 := Scalar.addi c0_i32_143 v167
  v168.toNat
def k0_dev24 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_146 : BitVec 32 := 9#32
  let v175 : BitVec 32 := Scalar.addi v2 c9_i32_146
  let c16_i32_147 : BitVec 32 := 16#32
  let v176 : BitVec 32 := Scalar.remsi v175 c16_i32_147
  let c1_i32_152 : BitVec 32 := 1#32
  let v179 : BitVec 32 := Scalar.muli v176 c1_i32_152
  let v180 : BitVec 32 := Scalar.addi c0_i32_153 v179
  v180.toNat
def k0_dev25 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_156 : BitVec 32 := 10#32
  let v187 : BitVec 32 := Scalar.addi v2 c10_i32_156
  let c16_i32_157 : BitVec 32 := 16#32
  let v188 : BitVec 32 := Scalar.remsi v187 c16_i32_157
  let c1_i32_162 : BitVec 32 := 1#32
  let v191 : BitVec 32 := Scalar.muli v188 c1_i32_162
  let v192 : BitVec 32 := Scalar.addi c0_i32_163 v191
  v192.toNat
def k0_dev26 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_166 : BitVec 32 := 11#32
  let v199 : BitVec 32 := Scalar.addi v2 c11_i32_166
  let c16_i32_167 : BitVec 32 := 16#32
  let v200 : BitVec 32 := Scalar.remsi v199 c16_i32_167
  let c1_i32_172 : BitVec 32 := 1#32
  let v203 : BitVec 32 := Scalar.muli v200 c1_i32_172
  let v204 : BitVec 32 := Scalar.addi c0_i32_173 v203
  v204.toNat
def k0_dev27 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_176 : BitVec 32 := 12#32
  let v211 : BitVec 32 := Scalar.addi v2 c12_i32_176
  let c16_i32_177 : BitVec 32 := 16#32
  let v212 : BitVec 32 := Scalar.remsi v211 c16_i32_177
  let c1_i32_182 : BitVec 32 := 1#32
  let v215 : BitVec 32 := Scalar.muli v212 c1_i32_182
  let v216 : BitVec 32 := Scalar.addi c0_i32_183 v215
  v216.toNat
def k0_dev28 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_186 : BitVec 32 := 13#32
  let v223 : BitVec 32 := Scalar.addi v2 c13_i32_186
  let c16_i32_187 : BitVec 32 := 16#32
  let v224 : BitVec 32 := Scalar.remsi v223 c16_i32_187
  let c1_i32_192 : BitVec 32 := 1#32
  let v227 : BitVec 32 := Scalar.muli v224 c1_i32_192
  let v228 : BitVec 32 := Scalar.addi c0_i32_193 v227
  v228.toNat
def k0_dev29 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_196 : BitVec 32 := 14#32
  let v235 : BitVec 32 := Scalar.addi v2 c14_i32_196
  let c16_i32_197 : BitVec 32 := 16#32
  let v236 : BitVec 32 := Scalar.remsi v235 c16_i32_197
  let c1_i32_202 : BitVec 32 := 1#32
  let v239 : BitVec 32 := Scalar.muli v236 c1_i32_202
  let v240 : BitVec 32 := Scalar.addi c0_i32_203 v239
  v240.toNat
def k0_dev30 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_206 : BitVec 32 := 15#32
  let v247 : BitVec 32 := Scalar.addi v2 c15_i32_206
  let c16_i32_207 : BitVec 32 := 16#32
  let v248 : BitVec 32 := Scalar.remsi v247 c16_i32_207
  let c1_i32_212 : BitVec 32 := 1#32
  let v251 : BitVec 32 := Scalar.muli v248 c1_i32_212
  let v252 : BitVec 32 := Scalar.addi c0_i32_213 v251
  v252.toNat
def k0_off3 (d0 : Dev nD) : Fin 2 → Nat :=
  let c0_217 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32_216 : BitVec 32 := 128#32
  let v259 : BitVec 32 := Scalar.muli v2 c128_i32_216
  let v260 : Index := Scalar.indexCast v259
  ![0, v260.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_218 : BitVec 32 := 256#32
  let v262 : BitVec 32 := Scalar.muli v2 c256_i32_218
  let v263 : Index := Scalar.indexCast v262
  let c0_219 : Index := 0#32
  ![v263.toNat, 0]
abbrev stage0_0 : Fin 1 → Memref sig .tc .vmem S256x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e5m2⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelIdeal.Loops.lean ====
/-
  The kernel's body as four LOOPS over its fifteen steps. The printed body is straight-line text: fifteen entry signals,
  the matrix product, one wait, fifteen remote copies, the device's own block, fifteen waits on the receive semaphores and
  fifteen on the send semaphores. Here each run of fifteen is written once, by recursion over the list of steps, and the
  printed body is that by computation (`body_eq`), so that a proof states one step once.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Exchange

open Cert.KernelIdeal Cert.KernelIdeal.Gen
open Idealize.ShloMosaic Idealize.ShloMosaic.TcCoe Idealize.SL Idealize.SL.Sem

variable {F : FTy → Type} [FloatOps F]

/-- A program of a TensorCore of this kernel. -/
abbrev Pr (F : FTy → Type) [FloatOps F] (α : Type) : Type 1 := Prog (TpuEff nD τ sig (Elt F) Λ₀ .tc) α

/-- The kernel's steps `1 … 15`, counted from 0. -/
abbrev steps : List (Fin 15) := [0, 1, 2, 3, 4, 5, 6, 7, 8, 9, 10, 11, 12, 13, 14]

/-! ## Where a step goes -/

set_option backward.proofsInPublic true in
/-- The device `r + 1` places after `c` around the mesh: whom device `c` signals and sends to at step `r`. -/
def dest (c : Dev nD) (r : Fin 15) : Dev nD := ⟨(c.val + r.val + 1) % 16, Nat.mod_lt _ (by decide)⟩
set_option backward.proofsInPublic true in
/-- The device `r + 1` places before `c`: who signals and sends to `c` at step `r`. -/
def orig (c : Dev nD) (r : Fin 15) : Dev nD := ⟨(c.val + 15 - r.val) % 16, Nat.mod_lt _ (by decide)⟩

/-- The device the printed signal of step `r` names. -/
def sigDev (c : Dev nD) : Fin 15 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩]
/-- The device the printed remote copy of step `r` names. -/
def sndDev (c : Dev nD) : Fin 15 → Dev nD :=
  ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩]

/-- Both are `dest c r`. -/
theorem sigDev_eq : ∀ (c : Dev nD) (r : Fin 15), sigDev c r = dest c r := by decide +kernel
theorem sndDev_eq : ∀ (c : Dev nD) (r : Fin 15), sndDev c r = dest c r := by decide +kernel

/-! ## The memrefs and semaphores -/

abbrev xM : Memref sig .tc .vmem S256x4096 .fp8e5m2 := Memref.whole cc0_stg0_0
abbrev wM : Memref sig .tc .vmem S4096x2048 .fp8e5m2 := Memref.whole cc0_stg1_0
abbrev sxM : Memref sig .tc .smem S1 .f32 := Memref.whole cc0_stg2_0
abbrev swM : Memref sig .tc .smem S1 .f32 := Memref.whole cc0_stg3_0
abbrev oM : Memref sig .tc .vmem S4096x128 .f32 := Memref.whole cc0_stg4_0
abbrev aM : Memref sig .tc .vmem S256x2048 .f32 := Memref.whole cc0_scratch0

/-- The runtime's barrier semaphore of the kernel's collective id. -/
abbrev barS : Sem sig := (SemArray.scalar (sig.barrier 0 rfl) : Sems sig S_).sem

theorem inb_sem (r : Fin 15) : ∀ a, (![r.val + 1] : Fin 1 → Nat) a + S1.size a ≤ S16.size a := by revert r; decide

/-- The send semaphore of step `r`, and the receive semaphore. -/
def sndS (r : Fin 15) : DmaSem sig :=
  ((cc0_scratch1.slice (Rect.unit (s := S16) ![r.val + 1] S1.size (inb_sem r))).squeeze S_ squeezes_S1_S_).sem
def rcvS (r : Fin 15) : DmaSem sig :=
  ((cc0_scratch2.slice (Rect.unit (s := S16) ![r.val + 1] S1.size (inb_sem r))).squeeze S_ squeezes_S1_S_).sem

/-- Rows `256c …` of the output buffer, as the copies out of device `c` name their destination. -/
abbrev oRow (c : Dev nD) : Memref sig .tc .vmem S256x128 .f32 :=
  oM.slice (Rect.unit (s := S4096x128) (k0_off1 c) S256x128.size (k0_off1_inb c)) (fun _ => rfl)
/-- The columns of the accumulator that device `c` sends at step `r`. -/
abbrev aCol (c : Dev nD) (r : Fin 15) : Memref sig .tc .vmem S256x128 .f32 :=
  aM.slice (Rect.unit (s := S256x2048) (k0_off2 c (BitVec.ofNat 32 (1 + r.val))) S256x128.size (k0_off2_inb c r)) (fun _ => rfl)

/-! ## The loops -/

/-- One signal of the entry barrier per step of the list, then `k`. -/
def sigLoop {α : Type} (c : Dev nD) (k : Pr F α) : List (Fin 15) → Pr F α
  | [] => k
  | r :: rs => semSignalWord (sigDev c r) barS 1#32 >>= fun _ => sigLoop c k rs

/-- One remote copy per step of the list, then `k`. -/
def sndLoop {α : Type} (c : Dev nD) (k : Pr F α) : List (Fin 15) → Pr F α
  | [] => k
  | r :: rs => Prog.lift (.enqueueDma (aCol c r) (.remote (Dev.tc (sndDev c r)) (oRow c) (.dma (sndS r))) (.dma (rcvS r))
      (View.wordExact_bits rfl) (View.wordExact_bits rfl) ⟨⟨rfl, Or.inl rfl⟩, trivial⟩) >>= fun _ => sndLoop c k rs

/-- One wait on the receive semaphore per step of the list, then `k`. -/
def rcvLoop {α : Type} (c : Dev nD) (k : Pr F α) : List (Fin 15) → Pr F α
  | [] => k
  | r :: rs => Prog.lift (.waitDma2 (rcvS r) (aCol c r) (oRow c) (View.wordExact_bits rfl) (View.wordExact_bits rfl)) >>= fun _ => rcvLoop c k rs

/-- One wait on the send semaphore per step of the list, then `k`. -/
def doneLoop {α : Type} (c : Dev nD) (k : Pr F α) : List (Fin 15) → Pr F α
  | [] => k
  | r :: rs => Prog.lift (.waitDma2 (sndS r) (oRow c) (aCol c r) (View.wordExact_bits rfl) (View.wordExact_bits rfl)) >>= fun _ => doneLoop c k rs

abbrev rS : Rect S1 := Rect.unit (s := S1) ![0] S1.size inb_S1_S1_0
abbrev rX : Rect S256x4096 := Rect.unit (s := S256x4096) ![0, 0] S256x4096.size inb_S256x4096_S256x4096_0_0
abbrev rW : Rect S4096x2048 := Rect.unit (s := S4096x2048) ![0, 0] S4096x2048.size inb_S4096x2048_S4096x2048_0_0
abbrev rA : Rect S256x2048 := Rect.unit (s := S256x2048) ![0, 0] S256x2048.size inb_S256x2048_S256x2048_0_0
/-- Device `c`'s own columns of the accumulator, and its own rows of the output. -/
abbrev rAown (c : Dev nD) : Rect S256x2048 := Rect.unit (s := S256x2048) (k0_off3 c) S256x128.size (k0_off3_inb c)
abbrev rOown (c : Dev nD) : Rect S4096x128 := Rect.unit (s := S4096x128) (k0_off4 c) S256x128.size (k0_off4_inb c)

/-- The device's own block, copied from the accumulator to the output by the core itself; then the thirty waits. -/
def bodyTail (c : Dev nD) : Pr F PUnit :=
  Prog.lift (.load aM (rAown c).toLoadRect (View.loadsAt_vmem h_S256x128)) >>= fun v : Vec F S256x128 .f32 =>
  Prog.lift (.load oM (rOown c).toLoadRect (View.loadsAt_vmem h_S256x128)) >>= fun _ : Vec F S256x128 .f32 =>
  Prog.lift (.store oM (rOown c) v Finset.univ (View.stores_vmem_bits_univ h_S256x128 rfl) (.inl rfl)) >>= fun _ =>
  rcvLoop c (doneLoop c (pure ⟨⟩) steps) steps

/-- The product and its store, the wait of the entry barrier, the remote copies, the tail. -/
def bodyMid (c : Dev nD) : Pr F PUnit :=
  smemLoad sxM rS numel1_S1 rfl >>= fun v64 : Elt F .f32 =>
  smemLoad swM rS numel1_S1 rfl >>= fun v65 : Elt F .f32 =>
  Prog.lift (.load xM rX.toLoadRect (View.loadsAt_vmem h_S256x4096)) >>= fun v67 : Vec F S256x4096 .fp8e5m2 =>
  Prog.lift (.load wM rW.toLoadRect (View.loadsAt_vmem h_S4096x2048)) >>= fun v70 : Vec F S4096x2048 .fp8e5m2 =>
  Prog.lift (.load aM rA.toLoadRect (View.loadsAt_vmem h_S256x2048)) >>= fun _ : Vec F S256x2048 .f32 =>
  Prog.lift (.store aM rA (k0_pay2 (k0_pay1 v64 v65 v67 v70)) Finset.univ (View.stores_vmem_bits_univ h_S256x2048 rfl) (.inl rfl)) >>= fun _ =>
  semWaitWord barS 15#32 >>= fun _ =>
  sndLoop c (bodyTail c) steps

/-- The body: the signals, the rest. -/
def bodyAll : Pr F PUnit := Prog.lift .deviceId >>= fun c => sigLoop c (bodyMid c) steps

set_option maxRecDepth 65536 in
/-- The printed body, on the buffers the pipeline calls it with, is that. -/
theorem body_eq : cc0_body (F := F) xM (Memref.isWhole_whole _) wM (Memref.isWhole_whole _) sxM (Memref.isWhole_whole _) swM (Memref.isWhole_whole _)
    oM (Memref.isWhole_whole _) aM (Memref.isWhole_whole _) cc0_scratch1 cc0_scratch2 = bodyAll := rfl

end Cert.KernelIdeal.Exchange

end
-- ==== Proof.KernelIdeal.Proto.lean ====
/-
  The exchange between the sixteen devices as a SCHEDULE of the rounds library: which semaphore waits for whom, for how
  much, and what memory changes hands when it is raised.

  A device's barrier semaphore has fifteen duties, one per step: step `r`'s is paid by the device `r + 1` places before,
  and hands over that device's rows of the output buffer which this device will write. A receive semaphore of step `r`
  has one duty, paid by the copy of the device `r + 1` places before: the rows it wrote, holding that device's block of
  columns. A send semaphore has one duty too: the sent columns of the accumulator back.
-/
module

public import proofs.«01_k».proof.Proof.KernelIdeal.Loops
public import proofs.«01_k».proof.Proof.Gen.KernelIdeal.Frame
public import Idealize.ShloMosaic.Lib.Pipeline.Launch
public import Idealize.ShloMosaic.Lib.Pipeline.Kit
public import Idealize.ShloMosaic.Lib.Rounds.Family
public import Idealize.ShloMosaic.Lib.Tactic

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds and the exchange's, whose duties are the steps -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Around the mesh -/

theorem orig_dest : ∀ (c : Dev nD) (r : Fin 15), orig (dest c r) r = c := by decide +kernel
theorem dest_orig : ∀ (c : Dev nD) (r : Fin 15), dest (orig c r) r = c := by decide +kernel
theorem dest_ne : ∀ (c : Dev nD) (r : Fin 15), dest c r ≠ c := by decide +kernel
/-- The device `r + 1` places before is the one `15 - r` places after. -/
theorem orig_rev : ∀ (c : Dev nD) (r : Fin 15), orig c (Fin.rev r) = dest c r := by decide +kernel
theorem dest_injective : ∀ (c : Dev nD) (r r' : Fin 15), dest c r = dest c r' → r = r' := by decide +kernel
theorem orig_injective : ∀ (c : Dev nD) (r r' : Fin 15), orig c r = orig c r' → r = r' := by decide +kernel
/-- Every other device is reached by exactly one step. -/
theorem erase_dest : ∀ c : Dev nD, (Finset.univ : Finset (Dev nD)).erase c = Finset.univ.image (dest c) := by decide +kernel
theorem erase_orig : ∀ c : Dev nD, (Finset.univ : Finset (Dev nD)).erase c = Finset.univ.image (orig c) := by decide +kernel

/-- The step `r` as a permutation of the devices. -/
def turn (r : Fin 15) : Dev nD ≃ Dev nD := ⟨fun c => dest c r, fun c => orig c r, fun c => orig_dest c r, fun c => dest_orig c r⟩

/-! ## The cells -/

/-- A device's semaphores in the exchange: its barrier, its fifteen send and its fifteen receive semaphores. -/
abbrev Which : Type := Unit ⊕ (Fin 15 ⊕ Fin 15)

/-- The kernel's own (scoped) semaphores of the exchange, and all of them. -/
def osem : Fin 15 ⊕ Fin 15 → SemLoc sig
  | .inl r => .dma (sndS r)
  | .inr r => .dma (rcvS r)
def csem : Which → SemLoc sig
  | .inl _ => .reg barS
  | .inr k => osem k

theorem csem_injective : Function.Injective csem := by
  have h : ∀ a b : Which, csem a = csem b → a = b := by decide +kernel
  exact fun a b => h a b

abbrev kcell (ck : Dev nD × Which) : GSem nD τ sig := ((ck.1 : Thread nD τ), csem ck.2)
abbrev barW : Which := .inl ()
abbrev sndW (r : Fin 15) : Which := .inr (.inl r)
abbrev rcvW (r : Fin 15) : Which := .inr (.inr r)

theorem kcell_injective : Function.Injective (kcell : Dev nD × Which → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

theorem kcell_eq_iff {c c' : Dev nD} {k k' : Which} : kcell (c, k) = kcell (c', k') ↔ c = c' ∧ k = k' :=
  ⟨fun h => Prod.mk.inj (kcell_injective h), fun h => by rw [h.1, h.2]⟩

/-- Which of the exchange's semaphores a location is, if it is one. -/
def which (s : SemLoc sig) : Option Which := Function.partialInv csem s
theorem which_csem (k : Which) : which (csem k) = some k := Function.partialInv_left csem_injective k

/-- The credit of one block. -/
abbrev N : ℕ := (oRow 0).view.dmaCredit
theorem N_pos : 0 < N := View.dmaCredit_pos _ (by decide)
theorem N_row (c : Dev nD) : (oRow c).view.dmaCredit = N := rfl
theorem N_col (c : Dev nD) (r : Fin 15) : (aCol c r).view.dmaCredit = N := by decide +revert

/-! ## The blocks of the two buffers -/

/-- Block `d` of the output: rows `256 d …`. Block `d` of the accumulator: columns `128 d …`. -/
def rowSet (d : Dev nD) : Finset S4096x128.Idx := Finset.univ.filter fun i => (i 0).val / 256 = d.val
def colSet (d : Dev nD) : Finset S256x2048.Idx := Finset.univ.filter fun i => (i 1).val / 128 = d.val

theorem mem_rowSet {d : Dev nD} {i : S4096x128.Idx} : i ∈ rowSet d ↔ (i 0).val / 256 = d.val := by simp [rowSet]
theorem mem_colSet {d : Dev nD} {i : S256x2048.Idx} : i ∈ colSet d ↔ (i 1).val / 128 = d.val := by simp [colSet]

theorem rowSet_disjoint : ∀ d ∈ (Finset.univ : Finset (Dev nD)), ∀ d' ∈ (Finset.univ : Finset (Dev nD)), d ≠ d' → Disjoint (rowSet d) (rowSet d') :=
  fun d _ d' _ h => Finset.disjoint_left.mpr fun i hi hi' => h (Fin.ext ((mem_rowSet.mp hi).symm.trans (mem_rowSet.mp hi')))
theorem colSet_disjoint : ∀ d ∈ (Finset.univ : Finset (Dev nD)), ∀ d' ∈ (Finset.univ : Finset (Dev nD)), d ≠ d' → Disjoint (colSet d) (colSet d') :=
  fun d _ d' _ h => Finset.disjoint_left.mpr fun i hi hi' => h (Fin.ext ((mem_colSet.mp hi).symm.trans (mem_colSet.mp hi')))
theorem rowSet_cover : (Finset.univ : Finset (Dev nD)).biUnion rowSet = Finset.univ :=
  Finset.eq_univ_iff_forall.mpr fun i => Finset.mem_biUnion.mpr
    ⟨⟨(i 0).val / 256, Nat.div_lt_of_lt_mul (i 0).isLt⟩, Finset.mem_univ _, mem_rowSet.mpr rfl⟩
theorem colSet_cover : (Finset.univ : Finset (Dev nD)).biUnion colSet = Finset.univ :=
  Finset.eq_univ_iff_forall.mpr fun i => Finset.mem_biUnion.mpr
    ⟨⟨(i 1).val / 128, Nat.div_lt_of_lt_mul (i 1).isLt⟩, Finset.mem_univ _, mem_colSet.mpr rfl⟩

theorem ofNat_step (c : Dev nD) (r : Fin 15) : k0_off2 c (BitVec.ofNat 32 (1 + r.val)) = ![0, 128 * (dest c r).val] := by
  revert c r; decide +kernel

/-- The rectangles the body names are these blocks. -/
theorem rows_rect (c : Dev nD) (off : Fin 2 → Nat) (h : off = ![256 * c.val, 0]) (inb) :
    (Rect.unit (s := S4096x128) off S256x128.size inb).set = rowSet c := by
  subst h; ext i
  rw [Rect.mem_set_unit, mem_rowSet, Fin.forall_fin_two]
  have h1 : (i 1).val < 128 := (i 1).isLt
  show (256 * c.val ≤ (i 0).val ∧ (i 0).val < 256 * c.val + 256) ∧ (0 ≤ (i 1).val ∧ (i 1).val < 0 + 128) ↔ _
  omega
theorem cols_rect (d : Dev nD) (off : Fin 2 → Nat) (h : off = ![0, 128 * d.val]) (inb) :
    (Rect.unit (s := S256x2048) off S256x128.size inb).set = colSet d := by
  subst h; ext i
  rw [Rect.mem_set_unit, mem_colSet, Fin.forall_fin_two]
  have h0 : (i 0).val < 256 := (i 0).isLt
  show (0 ≤ (i 0).val ∧ (i 0).val < 0 + 256) ∧ (128 * d.val ≤ (i 1).val ∧ (i 1).val < 128 * d.val + 128) ↔ _
  omega

theorem oRow_set (c : Dev nD) : (oRow c).view.set = rowSet c :=
  (View.set_slice_whole _ _).trans (rows_rect c _ (k0_off1_eq c) _)
theorem aCol_set (c : Dev nD) (r : Fin 15) : (aCol c r).view.set = colSet (dest c r) :=
  (View.set_slice_whole _ _).trans (cols_rect (dest c r) _ (ofNat_step c r) _)

/-! ## Contents -/

/-- Device `c`'s block of each operand as the pipeline stages it. -/
def xAt (c : Dev nD) : S256x4096.Idx → Elt F .fp8e5m2 := iblk m c (0 : Fin 5) t0_0
def wAt (c : Dev nD) : S4096x2048.Idx → Elt F .fp8e5m2 := iblk m c (1 : Fin 5) t0_0
def sxAt (c : Dev nD) : S1.Idx → Elt F .f32 := iblk m c (2 : Fin 5) t0_0
def swAt (c : Dev nD) : S1.Idx → Elt F .f32 := iblk m c (3 : Fin 5) t0_0

/-- The one index of a vector of one element. -/
abbrev i1 : S1.Idx := Shape.Idx.first (s := S1) (by decide)

/-- Device `c`'s accumulator after the product. -/
def accAt (c : Dev nD) : S256x2048.Idx → Elt F .f32 := k0_pay2 (k0_pay1 (sxAt m c i1) (swAt m c i1) (xAt m c) (wAt m c))

/-- Device `c`'s result: row block `d` is device `d`'s accumulator at the columns of block `c`. -/
def outAt (c : Dev nD) : S4096x128.Idx → Elt F .f32 := fun i =>
  accAt m ⟨(i 0).val / 256, Nat.div_lt_of_lt_mul (i 0).isLt⟩
    (Fin.cons (α := fun a => Fin (S256x2048.size a)) ⟨(i 0).val % 256, Nat.mod_lt _ (by decide)⟩
      (Fin.cons (α := fun a : Fin 1 => Fin (S256x2048.size a.succ)) ⟨128 * c.val + (i 1).val, by
        have := c.isLt; have h1 : (i 1).val < 128 := (i 1).isLt; show _ < 2048; have h2 : c.val < 16 := c.isLt; omega⟩ finZeroElim))

/-- The output rows of block `d` on device `c`, and the accumulator columns of block `d`, as owned memory. -/
def rowPts (c d : Dev nD) (f : S4096x128.Idx → Elt F .f32) : sProp 𝕄 := ((c : Thread nD τ).loc cc0_stg4_0) ↦[rowSet d]{fullShare} f
def colPts (c d : Dev nD) (f : S256x2048.Idx → Elt F .f32) : sProp 𝕄 := ((c : Thread nD τ).loc cc0_scratch0) ↦[colSet d]{fullShare} f

omit [FloatOps F] in
instance rowPts_storable (c d : Dev nD) (f) : BI.Storable (upEmb : UEmb _ 𝕄) (rowPts (F := F) c d f) := by unfold rowPts; infer_instance
omit [FloatOps F] in
instance colPts_storable (c d : Dev nD) (f) : BI.Storable (upEmb : UEmb _ 𝕄) (colPts (F := F) c d f) := by unfold colPts; infer_instance

/-! ## The schedule -/

/-- What the duties hand over. -/
def barPay (c : Dev nD) (r : Fin 15) : sProp 𝕄 := iprop(∃ f, rowPts (orig c r) c f)
def rcvPay (c : Dev nD) (r : Fin 15) : sProp 𝕄 := rowPts c (orig c r) (outAt m c)
def sndPay (c : Dev nD) (r : Fin 15) : sProp 𝕄 := colPts c (dest c r) (accAt m c)

/-- The duties of a semaphore's one round, the units of a duty, its payload. -/
def dutiesOf : Option Which → Finset (Fin 15)
  | some (.inl _) => Finset.univ
  | some (.inr _) => {0}
  | none => ∅
def unitsOf : Option Which → ℕ
  | some (.inr _) => N
  | _ => 1
def payOf (c : Dev nD) (d : Fin 15) : Option Which → sProp 𝕄
  | some (.inl _) => barPay c d
  | some (.inr (.inl r)) => sndPay m c r
  | some (.inr (.inr r)) => rcvPay m c r
  | none => iprop(emp)

/-- One round, round 0, of every TensorCore's semaphores of the exchange. -/
def Rd : Rounds.Schedule (GSem nD τ sig) (Fin 15) 𝕄 where
  duties g r := if r = 0 ∧ g.1.2 = .tc then dutiesOf (which g.2) else ∅
  unitless _ := False
  amount g _ _ := unitsOf (which g.2)
  payload g _ d := payOf m g.1.1 d (which g.2)
  amount_pos g _ _ _ := by
    rcases which g.2 with _ | _ | _
    · exact Nat.one_pos
    · exact Nat.one_pos
    · exact N_pos

instance Rd_storable (g : GSem nD τ sig) (r : ℕ) (d : Fin 15) : BI.Storable (upEmb : UEmb _ 𝕄) ((Rd (F := F) m).payload g r d) := by
  show BI.Storable upEmb (payOf m g.1.1 d (which g.2))
  rcases which g.2 with _ | _ | _ | _
  · unfold payOf; infer_instance
  · unfold payOf barPay; infer_instance
  · unfold payOf sndPay; infer_instance
  · unfold payOf rcvPay; infer_instance

section Sched
variable (c : Dev nD)

theorem duties_cell (k : Which) : (Rd (F := F) m).duties (kcell (c, k)) 0 = dutiesOf (some k) := by
  show (if 0 = 0 ∧ (Proc.tc : Proc τ) = .tc then dutiesOf (which (csem k)) else ∅) = _
  rw [if_pos ⟨rfl, rfl⟩, which_csem]
theorem duties_later (g : GSem nD τ sig) : ∀ r, 1 ≤ r → (Rd (F := F) m).duties g r = ∅ :=
  fun r hr => if_neg fun h => by have := h.1; omega
theorem amount_cell (k : Which) (d : Fin 15) : (Rd (F := F) m).amount (kcell (c, k)) 0 d = unitsOf (some k) := by
  show unitsOf (which (csem k)) = _; rw [which_csem]
theorem payload_cell (k : Which) (d : Fin 15) : (Rd (F := F) m).payload (kcell (c, k)) 0 d = payOf m c d (some k) := by
  show payOf m c d (which (csem k)) = _; rw [which_csem]

/-- A barrier's round is worth fifteen units, a copy's the block's credit. -/
theorem expect_bar : (Rd (F := F) m).expect (kcell (c, barW)) 0 = 15 := by
  unfold Schedule.expect Schedule.amountOf
  rw [duties_cell, Finset.sum_congr rfl fun d _ => amount_cell m c barW d]; rfl
theorem expect_own (k : Fin 15 ⊕ Fin 15) : (Rd (F := F) m).expect (kcell (c, .inr k)) 0 = N := by
  unfold Schedule.expect Schedule.amountOf
  rw [duties_cell, Finset.sum_congr rfl fun d _ => amount_cell m c (.inr k) d]
  exact Finset.sum_singleton _ _

/-- What a finished round hands its owner: everyone's rows at the barrier, one block at a copy. -/
theorem rest_bar : bigSep ((Rd (F := F) m).duties (kcell (c, barW)) 0 \ ∅) (fun d => (Rd (F := F) m).payload (kcell (c, barW)) 0 d)
    = bigSep Finset.univ fun r => barPay c r := by
  rw [Finset.sdiff_empty, duties_cell]
  exact bigSep_congr fun d _ => payload_cell m c barW d
theorem rest_own (k : Fin 15 ⊕ Fin 15) : bigSep ((Rd (F := F) m).duties (kcell (c, .inr k)) 0 \ ∅) (fun d => (Rd (F := F) m).payload (kcell (c, .inr k)) 0 d)
    = payOf m c 0 (some (.inr k)) := by
  rw [Finset.sdiff_empty, duties_cell]
  exact bigSep_singleton.trans (payload_cell m c (.inr k) 0)

end Sched

/-! ## What each core owes, and the levels -/

/-- What the copies of the steps in the list owe, the head's last. -/
def owedSnd (c : Dev nD) : List (Fin 15) → CellTallies nD τ sig Unit
  | [] => 0
  | r :: rs => owedSnd c rs + tallyAt (kcell (dest c r, rcvW r)) () N
/-- What the signals of the steps in the list and all the copies owe. -/
def owedSig (c : Dev nD) : List (Fin 15) → CellTallies nD τ sig Unit
  | [] => owedSnd c steps
  | r :: rs => owedSig c rs + tallyAt (kcell (dest c r, barW)) () 1
/-- What device `c` owes at launch. -/
def O₀ (c : Dev nD) : CellTallies nD τ sig Unit := owedSig c steps

def L (g : GSem nD τ sig) : Finset Unit := if g.1.2 = .tc then {()} else ∅
def levOf : Option Which → ℕ
  | some (.inl _) => 1
  | some (.inr (.inr _)) => 2
  | _ => 0
/-- Barrier semaphores at 1, receive semaphores at 2, everything else at 0. -/
def lv (g : GSem nD τ sig) (_ : Unit) : ℕ := levOf (which g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Which) : lv (kcell (c, k)) () = levOf (some k) := by unfold lv; rw [which_csem]

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem owedSnd_pos {c : Dev nD} {g : GSem nD τ sig} {u : Unit} : ∀ {l : List (Fin 15)}, 0 < owedSnd c l g u → ∃ d r, g = kcell (d, rcvW r)
  | [], h => absurd h (Nat.lt_irrefl 0)
  | r :: rs, h => by
    have h' : 0 < owedSnd c rs g u + (tallyAt (kcell (dest c r, rcvW r)) () N : CellTallies nD τ sig Unit) g u := h
    rcases Nat.add_pos_iff_pos_or_pos.mp h' with h1 | h1
    · exact owedSnd_pos h1
    · exact ⟨_, _, tally_pos h1⟩
theorem owedSig_pos {c : Dev nD} {g : GSem nD τ sig} {u : Unit} : ∀ {l : List (Fin 15)}, 0 < owedSig c l g u →
    (∃ d r, g = kcell (d, rcvW r)) ∨ ∃ d, g = kcell (d, barW)
  | [], h => Or.inl (owedSnd_pos h)
  | r :: rs, h => by
    have h' : 0 < owedSig c rs g u + (tallyAt (kcell (dest c r, barW)) () 1 : CellTallies nD τ sig Unit) g u := h
    rcases Nat.add_pos_iff_pos_or_pos.mp h' with h1 | h1
    · exact owedSig_pos h1
    · exact Or.inr ⟨_, tally_pos h1⟩

/-- Whatever is still owed, a semaphore at level 0 may be waited on. -/
theorem mayWait_low (c : Dev nD) (s : SemLoc sig) (hs : levOf (which s) = 0) (l : List (Fin 15)) :
    (levAts L lv : sProp 𝕄) ⊢ MayWait (c : Thread nD τ) s () (owedSig c l) := by
  refine MayOwe.of_cut (L := L) (lev := lv) 0 (fun p hp => by rw [Finset.mem_singleton.mp hp, L_tc]; exact Finset.mem_singleton_self _)
    (fun g u hg => ?_) (fun p hp => by rw [Finset.mem_singleton.mp hp]; exact le_of_eq hs) (fun g u hg => ?_)
  · rcases owedSig_pos hg with ⟨d, r, rfl⟩ | ⟨d, rfl⟩ <;> exact Finset.mem_singleton_self _
  · rcases owedSig_pos hg with ⟨d, r, rfl⟩ | ⟨d, rfl⟩
    · exact (lv_cell d (rcvW r)).symm ▸ (by decide : 0 < 2)
    · exact (lv_cell d barW).symm ▸ (by decide : 0 < 1)

/-- At its barrier a device owes copies only, whose semaphores lie above. -/
theorem mayWait_bar (c : Dev nD) :
    (levAts L lv : sProp 𝕄) ⊢ MayWait (c : Thread nD τ) (.reg barS) () (owedSnd c steps) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact le_of_eq (lv_cell c barW)) (fun g u hg => ?_)
  · obtain ⟨d, r, rfl⟩ := owedSnd_pos hg; exact Finset.mem_singleton_self _
  · obtain ⟨d, r, rfl⟩ := owedSnd_pos hg; exact (lv_cell d (rcvW r)).symm ▸ (by decide : 1 < 2)

/-! ## Lists of steps and sets of steps -/

/-- The separating conjunction over a list of steps. -/
def sepL (Φ : Fin 15 → sProp 𝕄) : List (Fin 15) → sProp 𝕄
  | [] => iprop(emp)
  | r :: rs => iprop(Φ r ∗ sepL Φ rs)

omit [FloatOps F] in
theorem sepL_toFinset (Φ : Fin 15 → sProp 𝕄) : ∀ {l : List (Fin 15)}, l.Nodup → bigSep l.toFinset Φ = sepL Φ l
  | [], _ => rfl
  | r :: rs, h => by
    rw [List.toFinset_cons, bigSep_insert (by rw [List.mem_toFinset]; exact (List.nodup_cons.mp h).1), sepL_toFinset Φ (List.nodup_cons.mp h).2]
    rfl
omit [FloatOps F] in
/-- Over all steps it is the one over the set of steps. -/
theorem sepL_steps (Φ : Fin 15 → sProp 𝕄) : sepL Φ steps = bigSep Finset.univ Φ := by
  rw [← sepL_toFinset Φ (by decide)]; congr 1

omit [FloatOps F] in
/-- One of a family over the devices, and the others as the steps from it, or the steps to it. -/
theorem devs_dest (c : Dev nD) (Φ : Dev nD → sProp 𝕄) : bigSep Finset.univ Φ = iprop(Φ c ∗ bigSep Finset.univ fun r => Φ (dest c r)) := by
  rw [bigSep_univ_at Φ c, erase_dest, bigSep_image_of_injOn (fun r _ r' _ h => dest_injective c r r' h)]
omit [FloatOps F] in
theorem devs_orig (c : Dev nD) (Φ : Dev nD → sProp 𝕄) : bigSep Finset.univ Φ = iprop(Φ c ∗ bigSep Finset.univ fun r => Φ (orig c r)) := by
  rw [bigSep_univ_at Φ c, erase_orig, bigSep_image_of_injOn (fun r _ r' _ h => orig_injective c r r' h)]

omit [FloatOps F] in
/-- The whole output buffer is its sixteen blocks; the accumulator likewise. -/
theorem rows_split (c : Dev nD) (f : S4096x128.Idx → Elt F .f32) :
    (((c : Thread nD τ).loc cc0_stg4_0) ↦{fullShare} f : sProp 𝕄) = bigSep Finset.univ fun d => rowPts c d f := by
  have h := pointsTo_biUnion (Ix := Unit) (Name := ℕ) (U := UU) (Lvl := ℕ) (ℓ := (c : Thread nD τ).loc cc0_stg4_0) (q := fullShare) (f := f) Finset.univ rowSet rowSet_disjoint
  rw [rowSet_cover] at h
  exact h
omit [FloatOps F] in
theorem cols_split (c : Dev nD) (f : S256x2048.Idx → Elt F .f32) :
    (((c : Thread nD τ).loc cc0_scratch0) ↦{fullShare} f : sProp 𝕄) = bigSep Finset.univ fun d => colPts c d f := by
  have h := pointsTo_biUnion (Ix := Unit) (Name := ℕ) (U := UU) (Lvl := ℕ) (ℓ := (c : Thread nD τ).loc cc0_scratch0) (q := fullShare) (f := f) Finset.univ colSet colSet_disjoint
  rw [colSet_cover] at h
  exact h

/-! ## A block written -/

/-- An element of block `d` of columns, and the one of block `d` of rows it is sent to. -/
theorem outAt_at (c d : Dev nD) (j : S256x128.Idx) (i : S4096x128.Idx) (a : S256x2048.Idx)
    (hi0 : (i 0).val = 256 * d.val + (j 0).val) (hi1 : (i 1).val = (j 1).val)
    (ha0 : (a 0).val = (j 0).val) (ha1 : (a 1).val = 128 * c.val + (j 1).val) : accAt m d a = outAt m c i := by
  have h0 : (j 0).val < 256 := (j 0).isLt
  have hd : d = ⟨(i 0).val / 256, Nat.div_lt_of_lt_mul (i 0).isLt⟩ := Fin.ext (by show d.val = (i 0).val / 256; omega)
  unfold outAt
  rw [← hd]
  congr 1
  funext b
  refine Fin.cases ?_ (fun b => ?_) b
  · exact Fin.ext (by show (a 0).val = (i 0).val % 256; omega)
  · obtain rfl : b = 0 := Subsingleton.elim _ _
    exact Fin.ext (by show (a 1).val = 128 * c.val + (i 1).val; omega)

/-- Rows of block `d` written with device `d`'s columns of block `c` hold device `c`'s result. -/
theorem write_rows (c d : Dev nD) (oR oC : Fin 2 → Nat) (hR : oR = ![256 * d.val, 0]) (hC : oC = ![0, 128 * c.val]) (inbR inbC)
    (f : S4096x128.Idx → Elt F .f32) :
    ∀ i ∈ rowSet d, ((View.whole cc0_stg4_0).slice (Rect.unit (s := S4096x128) oR S256x128.size inbR)).write (Elt F) f
      (((View.whole cc0_scratch0).slice (Rect.unit (s := S256x2048) oC S256x128.size inbC)).read (Elt F) (accAt m d)) Finset.univ i = outAt m c i := by
  subst hR; subst hC
  intro i hi
  rw [← rows_rect d _ rfl inbR, ← View.set_slice_whole cc0_stg4_0 (Rect.unit (s := S4096x128) ![256 * d.val, 0] S256x128.size inbR)] at hi
  obtain ⟨j, -, rfl⟩ := Finset.mem_map.mp hi
  rw [View.write_emb_of_mem _ _ (Finset.mem_univ j), View.read_apply]
  show accAt m d _ = _
  refine outAt_at m c d j _ _ ?_ ?_ ?_ ?_
  · show 256 * d.val + 1 * (j 0).val = _; omega
  · show 0 + 1 * (j 1).val = _; omega
  · show 0 + 1 * (j 0).val = _; omega
  · show 128 * c.val + 1 * (j 1).val = _; omega

end Cert.KernelIdeal.Exchange

end
-- ==== Proof.KernelIdeal.Body.lean ====
/-
  The body of the kernel executed symbolically: each of its four loops by one step, by induction over the list of steps,
  and the text between them one rule per effect.
-/
module

public import proofs.«01_k».proof.Proof.KernelIdeal.Proto

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows of every semaphore -/

/-- Every cell's invariant, at the names the launch allocated them at, and that every cell has reached round 0. -/
def records (K : Dev nD × Which → ℕ) : sProp 𝕄 :=
  iprop((bigSep Finset.univ fun ck : Dev nD × Which => cellInv ER (Rd m) (K ck) (kcell ck))
    ∗ bigSep Finset.univ fun ck : Dev nD × Which => reached ER (kcell ck) 0)

instance records_persistent (K : Dev nD × Which → ℕ) : BI.Persistent (records m K) := by unfold records; infer_instance

theorem records_inv (K : Dev nD × Which → ℕ) (ck : Dev nD × Which) : records m K ⊢ cellInv ER (Rd m) (K ck) (kcell ck) := by
  unfold records; iintro ⟨#HI, -⟩
  iapply (show (bigSep Finset.univ fun ck : Dev nD × Which => (cellInv ER (Rd m) (K ck) (kcell ck) : sProp 𝕄)) ⊢ cellInv ER (Rd m) (K ck) (kcell ck)
    from bigSep_elim (Finset.mem_univ ck))
  iexact HI
theorem records_reached (K : Dev nD × Which → ℕ) (ck : Dev nD × Which) : records m K ⊢ reached ER (kcell ck) 0 := by
  unfold records; iintro ⟨-, #HR⟩
  iapply (show (bigSep Finset.univ fun ck : Dev nD × Which => (reached ER (kcell ck) 0 : sProp 𝕄)) ⊢ reached ER (kcell ck) 0
    from bigSep_elim (Finset.mem_univ ck))
  iexact HR

section Loops
variable (K : Dev nD × Which → ℕ) (c : Dev nD) (k : Pr F PUnit)

/-- The signals: each step's hands the device it signals the rows of this device's output it will write. -/
theorem sig_loop (Q : PUnit → sProp 𝕄) (W : Waits sig Unit) : ∀ l : List (Fin 15),
    iprop(records m K ∗ owes (c : Thread nD τ) (owedSig c l) W
        ∗ sepL (fun r => iprop(dutyTok ER (kcell (dest c r, barW)) 0 r ∗ ∃ f, rowPts c (dest c r) f)) l)
      ⊢ iprop((owes (c : Thread nD τ) (owedSnd c steps) W -∗ wp frame (wpE (defs₀ (F := F)) 𝒱₀ (c : Thread nD τ) none) Set.univ k Q)
          -∗ wp frame (wpE (defs₀ (F := F)) 𝒱₀ (c : Thread nD τ) none) Set.univ (sigLoop c k l) Q)
  | [] => by
    unfold sigLoop owedSig
    iintro ⟨-, HO, -⟩ Hk
    iapply Hk; iexact HO
  | r :: rs => by
    have ih := sig_loop Q W rs
    simp only [sigLoop, semSignalWord, Prog.lift, Prog.bind_op, Prog.bind_ret, sigDev_eq, sepL, owedSig]
    iintro ⟨#HR, HO, ⟨Ht, ⟨%f, Hrow⟩⟩, Hrest⟩ Hk
    iapply (Rounds.wp_signal 𝒱₀ ER (Rd m) (c : Thread nD τ) none (dst := (dest c r : Thread nD τ)) (sem := barS) (κ := K (dest c r, barW)) (r := 0)
        (d := r) (by rw [show ((dest c r : Thread nD τ), SemLoc.reg barS) = kcell (dest c r, barW) from rfl, duties_cell]; exact Finset.mem_univ _)
        ((amount_cell m (dest c r) barW r).trans (by decide)) () (owedSig c rs) rfl)
      $$ [HO Ht Hrow]
    · isplitr; · iapply (records_inv m K (dest c r, barW)); iexact HR
      isplitl [HO]; · iexact HO
      isplitl [Ht]; · iexact Ht
      isplitl [Hrow]
      · rw [show ((dest c r : Thread nD τ), SemLoc.reg barS) = kcell (dest c r, barW) from rfl, payload_cell]
        unfold payOf barPay
        rw [orig_dest]
        iexists f; iexact Hrow
      · iapply (records_reached m K (dest c r, barW)); iexact HR
    iintro HO
    iapply ih $$ [HO Hrest]
    · isplitr; · iexact HR
      isplitl [HO] <;> iassumption
    iexact Hk

/-- One copy, addressed to `n = dest c r`: the sent columns and the destination's rows go into the transfer. -/
theorem send_one (Q : PUnit → sProp 𝕄) (r : Fin 15) (n : Dev nD) (hn : n = dest c r) (O : CellTallies nD τ sig Unit) (W : Waits sig Unit)
    {hsc : (oRow c).view.ref.isScScratch = false} {hsrc : (aCol c r).view.WordExact} {hdst : (oRow c).view.WordExact}
    {hsem : DmaTarget.Typed .vmem (.dma (rcvS r)) (.remote (Dev.tc n : Thread nD τ) (oRow c) (.dma (sndS r)) hsc)}
    {kk : PUnit → Pr F PUnit} (fn : S4096x128.Idx → Elt F .f32) :
    iprop(records m K ∗ owes (c : Thread nD τ) (O + tallyAt (kcell (dest c r, rcvW r)) () N) W
        ∗ dutyTok ER (kcell (c, sndW r)) 0 0 ∗ dutyTok ER (kcell (dest c r, rcvW r)) 0 0
        ∗ colPts c (dest c r) (accAt m c) ∗ rowPts (dest c r) c fn)
      ⊢ iprop(((cred (tallyAt (kcell (c, sndW r)) () N) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (aCol c r) (.remote (Dev.tc n : Thread nD τ) (oRow c) (.dma (sndS r)) hsc) (.dma (rcvS r)) hsrc hdst hsem) kk) Q) := by
  subst hn
  have hgo := Rounds.wp_send_pointsTo (defs := defs₀ (F := F)) (Γ := PendingWaitsCtx.empty) (Es := Set.univ) (Q := Q) (k := kk) (hsc := hsc) (hsrc := hsrc) (hdst := hdst) (hsem := hsem) 𝒱₀ ER (Rd m) (c : Thread nD τ) none
    (κ₁ := K (c, sndW r)) (κ₂ := K (dest c r, rcvW r)) (r₁ := 0) (r₂ := 0) (d₁ := 0) (d₂ := 0) (fs := accAt m c) (fd := fn) (q := fullShare)
    (by rw [show ((c : Thread nD τ), SemLoc.dma (sndS r)) = kcell (c, sndW r) from rfl, duties_cell]; exact Finset.mem_singleton_self _)
    (by rw [show ((dest c r : Thread nD τ), SemLoc.dma (rcvS r)) = kcell (dest c r, rcvW r) from rfl, duties_cell]; exact Finset.mem_singleton_self _)
    () () N rfl (amount_cell m c (sndW r) 0) (amount_cell m (dest c r) (rcvW r) 0) O rfl (W := W)
    (by
      rw [show ((c : Thread nD τ), SemLoc.dma (sndS r)) = kcell (c, sndW r) from rfl, payload_cell, aCol_set]
      exact BI.Entails.refl _)
    (by
      rw [show ((dest c r : Thread nD τ), SemLoc.dma (rcvS r)) = kcell (dest c r, rcvW r) from rfl, payload_cell, oRow_set]
      show _ ⊢ rowPts (dest c r) (orig (dest c r) r) (outAt m (dest c r))
      rw [orig_dest]
      exact Entails.of_eq (pointsTo_congr (write_rows m (dest c r) c _ _ (k0_off1_eq c) (ofNat_step c r) _ _ fn)))
  rw [aCol_set, oRow_set] at hgo
  unfold colPts rowPts
  iintro ⟨#HR, HO, Ht1, Ht2, Hcol, Hrow⟩
  iapply hgo
  isplitr; · iapply (records_inv m K (c, sndW r)); iexact HR
  isplitr; · iapply (records_inv m K (dest c r, rcvW r)); iexact HR
  isplitl [Hcol]; · iexact Hcol
  isplitl [Hrow]; · iexact Hrow
  isplitl [HO]; · iexact HO
  isplitl [Ht1]; · iexact Ht1
  isplitr; · iapply (records_reached m K (c, sndW r)); iexact HR
  isplitl [Ht2]; · iexact Ht2
  iapply (records_reached m K (dest c r, rcvW r)); iexact HR

/-- The copies: each step's columns go to its destination's rows; a credit for each comes back. -/
theorem snd_loop (Q : PUnit → sProp 𝕄) (W : Waits sig Unit) : ∀ l : List (Fin 15),
    iprop(records m K ∗ owes (c : Thread nD τ) (owedSnd c l) W
        ∗ sepL (fun r => iprop(dutyTok ER (kcell (c, sndW r)) 0 0 ∗ dutyTok ER (kcell (dest c r, rcvW r)) 0 0
            ∗ colPts c (dest c r) (accAt m c) ∗ ∃ f, rowPts (dest c r) c f)) l)
      ⊢ iprop(((owes (c : Thread nD τ) 0 W ∗ sepL (fun r => cred (tallyAt (kcell (c, sndW r)) () N)) l)
            -∗ wp frame (wpE (defs₀ (F := F)) 𝒱₀ (c : Thread nD τ) none) Set.univ k Q)
          -∗ wp frame (wpE (defs₀ (F := F)) 𝒱₀ (c : Thread nD τ) none) Set.univ (sndLoop c k l) Q)
  | [] => by
    simp only [sndLoop, owedSnd, sepL]
    iintro ⟨-, HO, -⟩ Hk
    iapply Hk
    isplitl; · iexact HO
    iempintro
  | r :: rs => by
    have ih := snd_loop Q W rs
    simp only [sndLoop, Prog.lift, Prog.bind_op, Prog.bind_ret, sepL, owedSnd]
    iintro ⟨#HR, HO, ⟨Ht1, Ht2, Hcol, ⟨%f, Hrow⟩⟩, Hrest⟩ Hk
    iapply (send_one m K c Q r _ (sndDev_eq c r) (owedSnd c rs) W f) $$ [HO Ht1 Ht2 Hcol Hrow]
    · isplitr; · iexact HR
      isplitl [HO]; · iexact HO
      isplitl [Ht1]; · iexact Ht1
      isplitl [Ht2]; · iexact Ht2
      isplitl [Hcol] <;> iassumption
    iintro ⟨Hc, HO⟩
    iapply ih $$ [HO Hrest]
    · isplitr; · iexact HR
      isplitl [HO] <;> iassumption
    iintro ⟨HO, Hcs⟩
    iapply Hk
    isplitl [HO]; · iexact HO
    isplitl [Hc] <;> iassumption

/-- One wait for a copy, at a send or a receive semaphore: the round's payload comes back. -/
theorem wait_one (Q : PUnit → sProp 𝕄) (j : Fin 15 ⊕ Fin 15) (sm : DmaSem sig) (hs : SemLoc.dma sm = osem j) (W : Waits sig Unit)
    {sp sp' : Space} {s s' : Shape} {e e' : EltTy} {src : Memref sig .tc sp' s' e'} {dst : Memref sig .tc sp s e} {hsrc : src.view.WordExact} {hdst : dst.view.WordExact}
    (hN : dst.view.dmaCredit = N) {kk : PUnit → Pr F PUnit} :
    iprop(records m K ∗ owes (c : Thread nD τ) 0 W ∗ cred (tallyAt (kcell (c, .inr j)) () N) ∗ atPos ER (kcell (c, .inr j)) 0 ∅ 0)
      ⊢ iprop(((owes (c : Thread nD τ) 0 (insert (SemLoc.dma sm, ()) W) ∗ atPos ER (kcell (c, .inr j)) 1 ∅ 0 ∗ payOf m c 0 (some (.inr j)))
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hsrc hdst) kk) Q) := by
  have hcell : ((c : Thread nD τ), SemLoc.dma sm) = kcell (c, .inr j) := by rw [hs]; rfl
  have hgo := Rounds.wp_wait_rest_token (defs := defs₀ (F := F)) (Q := Q) (k := kk) 𝒱₀ ER (Rd m) (c : Thread nD τ) none (κ := K (c, .inr j)) (sm := .dma sm)
    (wpE_waitDma2_eq (src := src) (dst := dst) (hsrc := hsrc) (hdst := hdst) 𝒱₀ (c : Thread nD τ) none Set.univ) (Set.mem_univ _) ()
    (O := 0) (W := W) (R := 0) (m := 0) (T := ∅)
    ((Nat.zero_add _).trans (hN.trans (by rw [hcell, expect_own])))
  rw [hcell, hN, rest_own] at hgo
  iintro ⟨#HR, HO, Hc, Hat⟩ Hk
  iapply hgo $$ [HO Hc Hat]
  · isplitr; · iapply (records_inv m K (c, .inr j)); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat] <;> iassumption

/-- The waits on the receive semaphores: each brings the rows its step wrote. -/
theorem rcv_loop (Q : PUnit → sProp 𝕄) : ∀ (l : List (Fin 15)) (W : Waits sig Unit),
    iprop(records m K ∗ owes (c : Thread nD τ) 0 W
        ∗ sepL (fun r => iprop(cred (tallyAt (kcell (c, rcvW r)) () N) ∗ atPos ER (kcell (c, rcvW r)) 0 ∅ 0)) l)
      ⊢ iprop(((∃ W', owes (c : Thread nD τ) 0 W') ∗ sepL (fun r => iprop(atPos ER (kcell (c, rcvW r)) 1 ∅ 0 ∗ rcvPay m c r)) l
            -∗ wp frame (wpE (defs₀ (F := F)) 𝒱₀ (c : Thread nD τ) none) Set.univ k Q)
          -∗ wp frame (wpE (defs₀ (F := F)) 𝒱₀ (c : Thread nD τ) none) Set.univ (rcvLoop c k l) Q)
  | [], W => by
    simp only [rcvLoop, sepL]
    iintro ⟨-, HO, -⟩ Hk
    iapply Hk
    isplitl; · iexists W; iexact HO
    iempintro
  | r :: rs, W => by
    have ih := rcv_loop Q rs (insert (SemLoc.dma (rcvS r), ()) W)
    simp only [rcvLoop, Prog.lift, Prog.bind_op, Prog.bind_ret, sepL]
    iintro ⟨#HR, HO, ⟨Hc, Hat⟩, Hrest⟩ Hk
    iapply (wait_one m K c Q (.inr r) (rcvS r) rfl W (N_row c)) $$ [HO Hc Hat]
    · isplitr; · iexact HR
      isplitl [HO]; · iexact HO
      isplitl [Hc] <;> iassumption
    iintro ⟨HO, Hat, Hpay⟩
    ihave Hp := (Entails.of_eq (show payOf m c 0 (some (.inr (.inr r))) = rcvPay m c r from rfl)) $$ Hpay
    iapply ih $$ [HO Hrest]
    · isplitr; · iexact HR
      isplitl [HO] <;> iassumption
    iintro ⟨HO, Hs⟩
    iapply Hk
    isplitl [HO]; · iexact HO
    isplitr [Hs]
    · isplitl [Hat]; · iexact Hat
      iexact Hp
    iexact Hs

/-- The waits on the send semaphores: each brings its columns of the accumulator back. -/
theorem done_loop (Q : PUnit → sProp 𝕄) : ∀ (l : List (Fin 15)) (W : Waits sig Unit),
    iprop(records m K ∗ owes (c : Thread nD τ) 0 W
        ∗ sepL (fun r => iprop(cred (tallyAt (kcell (c, sndW r)) () N) ∗ atPos ER (kcell (c, sndW r)) 0 ∅ 0)) l)
      ⊢ iprop(((∃ W', owes (c : Thread nD τ) 0 W') ∗ sepL (fun r => iprop(atPos ER (kcell (c, sndW r)) 1 ∅ 0 ∗ sndPay m c r)) l
            -∗ wp frame (wpE (defs₀ (F := F)) 𝒱₀ (c : Thread nD τ) none) Set.univ k Q)
          -∗ wp frame (wpE (defs₀ (F := F)) 𝒱₀ (c : Thread nD τ) none) Set.univ (doneLoop c k l) Q)
  | [], W => by
    simp only [doneLoop, sepL]
    iintro ⟨-, HO, -⟩ Hk
    iapply Hk
    isplitl; · iexists W; iexact HO
    iempintro
  | r :: rs, W => by
    have ih := done_loop Q rs (insert (SemLoc.dma (sndS r), ()) W)
    simp only [doneLoop, Prog.lift, Prog.bind_op, Prog.bind_ret, sepL]
    iintro ⟨#HR, HO, ⟨Hc, Hat⟩, Hrest⟩ Hk
    iapply (wait_one m K c Q (.inl r) (sndS r) rfl W (N_col c r)) $$ [HO Hc Hat]
    · isplitr; · iexact HR
      isplitl [HO]; · iexact HO
      isplitl [Hc] <;> iassumption
    iintro ⟨HO, Hat, Hpay⟩
    ihave Hp := (Entails.of_eq (show payOf m c 0 (some (.inr (.inl r))) = sndPay m c r from rfl)) $$ Hpay
    iapply ih $$ [HO Hrest]
    · isplitr; · iexact HR
      isplitl [HO] <;> iassumption
    iintro ⟨HO, Hs⟩
    iapply Hk
    isplitl [HO]; · iexact HO
    isplitr [Hs]
    · isplitl [Hat]; · iexact Hat
      iexact Hp
    iexact Hs

/-- The device's own block, copied by the core, and the thirty waits. -/
theorem tail_wp (Q : PUnit → sProp 𝕄) (W : Waits sig Unit) (g : S4096x128.Idx → Elt F .f32) :
    iprop(records m K ∗ owes (c : Thread nD τ) 0 W ∗ colPts c c (accAt m c) ∗ rowPts c c g
        ∗ sepL (fun r => iprop(cred (tallyAt (kcell (c, rcvW r)) () N) ∗ atPos ER (kcell (c, rcvW r)) 0 ∅ 0)) steps
        ∗ sepL (fun r => iprop(cred (tallyAt (kcell (c, sndW r)) () N) ∗ atPos ER (kcell (c, sndW r)) 0 ∅ 0)) steps)
      ⊢ iprop(((∃ W', owes (c : Thread nD τ) 0 W') ∗ colPts c c (accAt m c) ∗ rowPts c c (outAt m c)
              ∗ sepL (fun r => iprop(atPos ER (kcell (c, rcvW r)) 1 ∅ 0 ∗ rcvPay m c r)) steps
              ∗ sepL (fun r => iprop(atPos ER (kcell (c, sndW r)) 1 ∅ 0 ∗ sndPay m c r)) steps
            -∗ |={Set.univ}=> Q ⟨⟩)
          -∗ wp frame (wpE (defs₀ (F := F)) 𝒱₀ (c : Thread nD τ) none) Set.univ (bodyTail (F := F) c) Q) := by
  have hA : (aM.access (rAown c)).set ⊆ colSet c := subset_of_eq ((View.set_slice_whole _ _).trans (cols_rect c _ (k0_off3_eq c) _))
  have hO : (oM.access (rOown c)).set ⊆ rowSet c := subset_of_eq ((View.set_slice_whole _ _).trans (rows_rect c _ (k0_off4_eq c) _))
  unfold bodyTail
  simp only [Prog.lift, Prog.bind_op, Prog.bind_ret]
  unfold colPts rowPts
  iintro ⟨#HR, HO, Hcol, Hrow, Hrcv, Hsnd⟩ Hk
  iapply (wp_load_rect 𝒱₀ (c : Thread nD τ) none Set.univ (m := aM) (r := rAown c) hA) $$ Hcol; iintro Hcol
  iapply (wp_load_rect 𝒱₀ (c : Thread nD τ) none Set.univ (m := oM) (r := rOown c) hO) $$ Hrow; iintro Hrow
  iapply (wp_store 𝒱₀ (c : Thread nD τ) none Set.univ (m := oM) (r := rOown c) (Mk := Finset.univ) hO) $$ Hrow; iintro Hrow
  ihave Hrow := (Entails.of_eq (pointsTo_congr (write_rows m c c _ _ (k0_off4_eq c) (k0_off3_eq c) _ _ g))) $$ Hrow
  iapply (rcv_loop m K c _ Q steps W) $$ [HO Hrcv]
  · isplitr; · iexact HR
    isplitl [HO] <;> iassumption
  iintro ⟨⟨%W1, HO⟩, Hrcv⟩
  iapply (done_loop m K c _ Q steps W1) $$ [HO Hsnd]
  · isplitr; · iexact HR
    isplitl [HO] <;> iassumption
  iintro ⟨HO, Hsnd⟩
  rw [Prog.pure_eq_ret, wp_ret]
  iapply Hk
  isplitl [HO]; · iexact HO
  isplitl [Hcol]; · iexact Hcol
  isplitl [Hrow]; · iexact Hrow
  isplitl [Hrcv] <;> iassumption

end Loops

end Cert.KernelIdeal.Exchange

end
-- ==== Proof.KernelIdeal.Point.lean ====
/-
  The one point of the kernel's grid: what a device holds when its body starts and when it ends, and the body run
  between the two.
-/
module

public import proofs.«01_k».proof.Proof.KernelIdeal.Body

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the point -/

/-- The tokens of the duties device `c` pays: its signals', its copies' at its own send semaphores and at the receive
    semaphores of their destinations. -/
def payToks (c : Dev nD) : sProp 𝕄 :=
  iprop((bigSep Finset.univ fun r => dutyTok ER (kcell (dest c r, barW)) 0 r)
    ∗ (bigSep Finset.univ fun r => dutyTok ER (kcell (c, sndW r)) 0 0)
    ∗ bigSep Finset.univ fun r => dutyTok ER (kcell (dest c r, rcvW r)) 0 0)

/-- The exchange's ghost state device `c` starts from: what is known of every semaphore, its positions at its own, the
    tokens it pays with. -/
def ghost (K : Dev nD × Which → ℕ) (c : Dev nD) : sProp 𝕄 :=
  iprop(records m K ∗ (bigSep Finset.univ fun k : Which => atPos ER (kcell (c, k)) 0 ∅ 0) ∗ payToks c)

/-- That at some names, the credit of its barrier and of its receive semaphores, the levels. -/
def start (c : Dev nD) : sProp 𝕄 :=
  iprop((∃ K, ghost m K c) ∗ cred (tallyAt (kcell (c, barW)) () 15)
    ∗ (bigSep Finset.univ fun r => cred (tallyAt (kcell (c, rcvW r)) () N)) ∗ levAts L lv)

/-- Before the point: that and the accumulator. After it: the accumulator and every semaphore at zero. -/
def Φ₀ (c : Dev nD) : sProp 𝕄 := iprop(start m c ∗ ∃ f, ((c : Thread nD τ).loc cc0_scratch0) ↦{fullShare} f)
def Φ₁ (c : Dev nD) : sProp 𝕄 :=
  iprop((∃ f, ((c : Thread nD τ).loc cc0_scratch0) ↦{fullShare} f) ∗ bigSep Finset.univ fun k : Which => semVal (kcell (c, k)) 0)

/-- The pipeline's proof data: the arrays as launched; the operands' staging buffers left as fetched, the result's
    holding `outAt`. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => sxAt m c
    | ⟨3, _⟩ => swAt m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the body finds in the operands' staging buffers. -/
theorem before_x (c : Dev nD) (d) : (dats m 0 c).before (0 : Fin 5) t0_0 d = xAt m c :=
  ((dats m 0 c).before_fetched 0 t0_0 (fetch0_0 t0_0) d).trans (by unfold Dat.fetched Dat.blockOf; rfl)
theorem before_w (c : Dev nD) (d) : (dats m 0 c).before (1 : Fin 5) t0_0 d = wAt m c :=
  ((dats m 0 c).before_fetched 1 t0_0 (fetch0_1 t0_0) d).trans (by unfold Dat.fetched Dat.blockOf; rfl)
theorem before_sx (c : Dev nD) (d) : (dats m 0 c).before (2 : Fin 5) t0_0 d = sxAt m c :=
  ((dats m 0 c).before_fetched 2 t0_0 (fetch0_2 t0_0) d).trans (by unfold Dat.fetched Dat.blockOf; rfl)
theorem before_sw (c : Dev nD) (d) : (dats m 0 c).before (3 : Fin 5) t0_0 d = swAt m c :=
  ((dats m 0 c).before_fetched 3 t0_0 (fetch0_3 t0_0) d).trans (by unfold Dat.fetched Dat.blockOf; rfl)

/-! ## The loads and the store of the whole buffers -/

theorem hz1 : (![0] : Fin 1 → Nat) = fun _ => 0 := funext fun a => by fin_cases a; rfl
theorem hz2 : (![0, 0] : Fin 2 → Nat) = fun _ => 0 := funext fun a => by fin_cases a <;> rfl
theorem read_x (f : S256x4096.Idx → Elt F .fp8e5m2) : xM.view.readAt (Elt F) rX.toLoadRect f = f := Memref.readAt_unit_zero (Elt F) cc0_stg0_0 hz2 _ f
theorem read_w (f : S4096x2048.Idx → Elt F .fp8e5m2) : wM.view.readAt (Elt F) rW.toLoadRect f = f := Memref.readAt_unit_zero (Elt F) cc0_stg1_0 hz2 _ f
theorem read_sx (f : S1.Idx → Elt F .f32) : (sxM.access rS).read (Elt F) f = f := Memref.read_access_unit_zero (Elt F) cc0_stg2_0 hz1 _ f
theorem read_sw (f : S1.Idx → Elt F .f32) : (swM.access rS).read (Elt F) f = f := Memref.read_access_unit_zero (Elt F) cc0_stg3_0 hz1 _ f
theorem write_a (f w : S256x2048.Idx → Elt F .f32) : (aM.access rA).write (Elt F) f w Finset.univ = w :=
  Memref.write_access_unit_zero_univ (Elt F) cc0_scratch0 hz2 _ f w

/-! ## The body -/

section Body
variable (K : Dev nD × Which → ℕ)

def bodyPre (c : Dev nD) : sProp 𝕄 :=
  iprop((ghost m K c ∗ cred (tallyAt (kcell (c, barW)) () 15) ∗ (bigSep Finset.univ fun r => cred (tallyAt (kcell (c, rcvW r)) () N)) ∗ levAts L lv
      ∗ ∃ f, ((c : Thread nD τ).loc cc0_scratch0) ↦{fullShare} f)
    ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(Φ₁ c ∗ (dats m 0 c).owesAt () t0_0.succ ∗ stg c cc0_stg0_0 (xAt m c) ∗ stg c cc0_stg1_0 (wAt m c)
    ∗ stg c cc0_stg2_0 (sxAt m c) ∗ stg c cc0_stg3_0 (swAt m c) ∗ stg c cc0_stg4_0 (outAt m c))

/-- The positions at a device's semaphores, by kind. -/
theorem atPos_split (c : Dev nD) (n : ℕ) : (bigSep Finset.univ fun k : Which => (atPos ER (kcell (c, k)) n ∅ 0 : sProp 𝕄))
    = iprop(atPos ER (kcell (c, barW)) n ∅ 0 ∗ (bigSep Finset.univ fun r => atPos ER (kcell (c, sndW r)) n ∅ 0)
        ∗ bigSep Finset.univ fun r => atPos ER (kcell (c, rcvW r)) n ∅ 0) := by
  rw [bigSep_univ_sum, bigSep_univ_sum, bigSep_univ_of_subsingleton ()]; rfl

/-- All of a device's semaphores closed: each round 0 over, its counter at zero is the device's again. -/
theorem close_all (c : Dev nD) : iprop(records m K ∗ bigSep Finset.univ fun k : Which => (atPos ER (kcell (c, k)) 1 ∅ 0 : sProp 𝕄))
    ⊢ |={Set.univ}=> bigSep Finset.univ fun k : Which => semVal (kcell (c, k)) 0 :=
  (bigSep_with_persistent (R := records m K) fun k _ =>
    show iprop(records m K ∗ (atPos ER (kcell (c, k)) 1 ∅ 0 : sProp 𝕄)) ⊢ iprop(cellInv ER (Rd m) (K (c, k)) (kcell (c, k)) ∗ atPos ER (kcell (c, k)) 1 ∅ 0)
      from sep_mono_left (records_inv m K (c, k))).trans
    (Rounds.cells_close ER (Rd m) Finset.univ (fun k : Which => kcell (c, k)) (fun k => K (c, k)) (fun k _ => Set.mem_univ _) (fun k _ h => h) (fun _ => 1)
      fun k _ => duties_later m _)

set_option maxHeartbeats 1600000 in
/-- The body, from `bodyPre` to `bodyPost`. -/
theorem sound_body (c : Dev nD) (Kt : PUnit → sProp 𝕄) :
    iprop(bodyPre m K c ∗ (bodyPost m c -∗ Kt ⟨⟩))
      ⊢ wp frame (wpE (defs₀ (F := F)) 𝒱₀ (c : Thread nD τ) none) Set.univ
          (cc0_body xM (Memref.isWhole_whole _) wM (Memref.isWhole_whole _) sxM (Memref.isWhole_whole _) swM (Memref.isWhole_whole _)
            oM (Memref.isWhole_whole _) aM (Memref.isWhole_whole _) cc0_scratch1 cc0_scratch2) Kt := by
  rw [body_eq]
  unfold bodyAll
  simp only [Prog.lift, Prog.bind_op, Prog.bind_ret, wp_deviceId]
  unfold bodyPre ghost payToks
  iintro ⟨⟨⟨⟨#HR, Hat, HtB, HtS, HtV⟩, HcB, HcV, #Hlev, ⟨%f0, Hacc⟩⟩,
    Ho, ⟨%d0, %g0, %hg0, Hx⟩, ⟨%d1, %g1, %hg1, Hw⟩, ⟨%d2, %g2, %hg2, Hsx⟩, ⟨%d3, %g3, %hg3, Hsw⟩, ⟨%d4, %g4, %hg4, Hout⟩⟩, Hk⟩
  obtain rfl : g0 = xAt m c := hg0.trans (before_x m c d0)
  obtain rfl : g1 = wAt m c := hg1.trans (before_w m c d1)
  obtain rfl : g2 = sxAt m c := hg2.trans (before_sx m c d2)
  obtain rfl : g3 = swAt m c := hg3.trans (before_sw m c d3)
  unfold Dat.owesAt Pipeline.owesWithin
  icases Ho with ⟨%W, %hW, HO⟩
  rw [show (dats m 0 c).owed t0_0.castSucc = owedSig c steps from rfl]
  ihave Hat' := (Entails.of_eq (atPos_split (F := F) c 0)) $$ Hat
  icases Hat' with ⟨HatB, HatS, HatV⟩
  -- the output's blocks: its own and the fifteen given away by the signals
  ihave Hrows := (Entails.of_eq ((rows_split (F := F) c g4).trans (devs_dest c fun d => rowPts c d g4))) $$ Hout
  icases Hrows with ⟨Hown, Hrows⟩
  iapply (sig_loop m K c _ Kt W steps) $$ [HO HtB Hrows]
  · isplitr; · iexact HR
    isplitl [HO]; · iexact HO
    rw [sepL_steps, bigSep_sep']
    isplitl [HtB]; · iexact HtB
    iapply (show (bigSep Finset.univ fun r => rowPts c (dest c r) g4 : sProp 𝕄) ⊢ bigSep Finset.univ fun r => iprop(∃ f, rowPts c (dest c r) f)
      from bigSep_mono fun r _ => show rowPts c (dest c r) g4 ⊢ iprop(∃ f, rowPts c (dest c r) f) from by iintro H; iexists g4; iexact H)
    iexact Hrows
  iintro HO
  -- the product
  unfold bodyMid
  simp only [smemLoad, smemLoadElt_bind, Prog.lift, Prog.bind_op, Prog.bind_ret]
  iapply (wp_smemLoadElt 𝒱₀ (c : Thread nD τ) none Set.univ (m := sxM) (r := rS) (Finset.subset_univ _)) $$ Hsx; iintro Hsx
  iapply (wp_smemLoadElt 𝒱₀ (c : Thread nD τ) none Set.univ (m := swM) (r := rS) (Finset.subset_univ _)) $$ Hsw; iintro Hsw
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := aM) (Finset.subset_univ _)) $$ Hacc; iintro Hacc
  iapply (wp_store 𝒱₀ (c : Thread nD τ) none Set.univ (m := aM) (r := rA) (Mk := Finset.univ) (Finset.subset_univ _)) $$ Hacc; iintro Hacc
  rw [write_a, read_x, read_w, read_sx, read_sw]
  ihave Hcols := (Entails.of_eq (show (((c : Thread nD τ).loc cc0_scratch0) ↦{fullShare} k0_pay2 (k0_pay1 (sxAt m c i1) (swAt m c i1) (xAt m c) (wAt m c)) : sProp 𝕄) = _
    from (cols_split (F := F) c (accAt m c)).trans (devs_dest c fun d => colPts c d (accAt m c)))) $$ Hacc
  icases Hcols with ⟨Hcown, Hcols⟩
  -- the barrier
  unfold semWaitWord
  simp only [Prog.lift, Prog.bind_op, Prog.bind_ret]
  iapply (Rounds.wp_wait_rest_token 𝒱₀ ER (Rd m) (c : Thread nD τ) none (κ := K (c, barW)) (sm := .reg barS)
      (wpE_semWait_eq 𝒱₀ (c : Thread nD τ) none Set.univ) (Set.mem_univ _) () (O := owedSnd c steps) (W := W) (R := 0) (m := 0) (T := ∅)
      ((show 0 + (15#32).toNat = 15 from rfl).trans (expect_bar m c).symm)) $$ [HcB HO HatB]
  · isplitr; · iapply (records_inv m K (c, barW)); iexact HR
    isplitl [HcB]; · iexact HcB
    isplitl [HO]; · iexact HO
    isplitr; · iapply (mayWait_bar c); iexact Hlev
    iexact HatB
  iintro ⟨HO, HatB, -, Hpay⟩
  ihave Hp := (Entails.of_eq (show bigSep ((Rd (F := F) m).duties ((c : Thread nD τ), SemLoc.reg barS) 0 \ ∅)
      (fun d => (Rd (F := F) m).payload ((c : Thread nD τ), SemLoc.reg barS) 0 d) = _ from (rest_bar m c).trans (bigSep_univ_equiv Fin.revPerm fun r => barPay (F := F) c r))) $$ Hpay
  -- the copies
  iapply (snd_loop m K c _ Kt _ steps) $$ [HO HtS HtV Hcols Hp]
  · isplitr; · iexact HR
    isplitl [HO]; · iexact HO
    rw [sepL_steps, bigSep_sep', bigSep_sep', bigSep_sep']
    isplitl [HtS]; · iexact HtS
    isplitl [HtV]; · iexact HtV
    isplitl [Hcols]; · iexact Hcols
    iapply (show (bigSep Finset.univ fun r => barPay c (Fin.revPerm r) : sProp 𝕄) ⊢ bigSep Finset.univ fun r => iprop(∃ f, rowPts (dest c r) c f)
      from bigSep_mono fun r _ => by unfold barPay; rw [show orig c (Fin.revPerm r) = dest c r from orig_rev c r]; exact BI.Entails.refl _)
    iexact Hp
  iintro ⟨HO, HcS⟩
  ihave HcS := (Entails.of_eq (sepL_steps (F := F) fun r => cred (tallyAt (kcell (c, sndW r)) () N))) $$ HcS
  -- its own block and the waits
  iapply (tail_wp m K c Kt _ g4) $$ [HO Hcown Hown HcS HcV HatS HatV]
  · isplitr; · iexact HR
    isplitl [HO]; · iexact HO
    isplitl [Hcown]; · iexact Hcown
    isplitl [Hown]; · iexact Hown
    rw [sepL_steps, sepL_steps, bigSep_sep', bigSep_sep']
    isplitl [HcV HatV]
    · isplitl [HcV] <;> iassumption
    · isplitl [HcS] <;> iassumption
  rw [sepL_steps, sepL_steps, bigSep_sep', bigSep_sep']
  iintro ⟨⟨%W', HO⟩, Hcown, Hown, ⟨HatV, Hrows⟩, HatS, Hcols⟩
  ihave Hout := (Entails.of_eq ((rows_split (F := F) c (outAt m c)).trans (devs_orig c fun d => rowPts c d (outAt m c))).symm) $$ [Hown Hrows]
  · isplitl [Hown]; · iexact Hown
    iexact Hrows
  ihave Hacc := (Entails.of_eq ((cols_split (F := F) c (accAt m c)).trans (devs_dest c fun d => colPts c d (accAt m c))).symm) $$ [Hcown Hcols]
  · isplitl [Hcown]; · iexact Hcown
    iexact Hcols
  ihave Hat := (Entails.of_eq (atPos_split (F := F) c 1).symm) $$ [HatB HatS HatV]
  · isplitl [HatB]; · iexact HatB
    isplitl [HatS] <;> iassumption
  imod (close_all m K c) $$ [Hat] with Hz
  · isplitr; · iexact HR
    iexact Hat
  imodintro
  iapply Hk
  unfold bodyPost Φ₁ Dat.owesAt Pipeline.owesWithin
  rw [show (dats m 0 c).owed t0_0.succ = 0 from rfl]
  isplitl [Hacc Hz]
  · isplitl [Hacc]
    · iexists _; iexact Hacc
    iexact Hz
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

def bodyPre' (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

set_option maxRecDepth 65536 in
/-- The pipeline library's body obligation on core `c`. -/
theorem body_obligation (c : Dev nD) : BodyObligation (dats (F := F) m 0 c) (defs₀ (F := F)) 𝒱₀ () Set.univ := fun t => by
  rw [show t = t0_0 from fin_N0 t]
  rw [bigSep_W0, bigSep_W0]
  simp only [owns_whole_eq]
  show bodyPre' m c ⊢ wp frame (wpE (defs₀ (F := F)) 𝒱₀ (c : Thread nD τ) none) Set.univ
    (cc0_body xM (Memref.isWhole_whole _) wM (Memref.isWhole_whole _) sxM (Memref.isWhole_whole _) swM (Memref.isWhole_whole _)
      oM (Memref.isWhole_whole _) aM (Memref.isWhole_whole _) cc0_scratch1 cc0_scratch2) (fun _ => bodyPost m c)
  unfold bodyPre' Φ₀ start
  iintro ⟨⟨⟨⟨%K, Hg⟩, H1, H2, H3⟩, Hscr⟩, Ho, Hw⟩
  iapply (sound_body m K c fun _ => bodyPost m c)
  unfold bodyPre
  isplitr []
  · isplitl [Hg H1 H2 H3 Hscr]
    · isplitl [Hg]; · iexact Hg
      isplitl [H1]; · iexact H1
      isplitl [H2]; · iexact H2
      isplitl [H3]; · iexact H3
      iexact Hscr
    isplitl [Ho] <;> iassumption
  · iintro H; iexact H

end Body

end Cert.KernelIdeal.Exchange

end
-- ==== Proof.KernelIdeal.Launch.lean ====
/-
  The launch of the kernel on the sixteen devices: the exchange's ghost state made once for all devices and dealt to them,
  the credit every semaphore is owed, and the run of the whole program, ending with every result array known and every
  counter at zero.
-/
module

public import proofs.«01_k».proof.Proof.KernelIdeal.Point
public import Idealize.ShloMosaic.Lib.Pipeline.CollectiveSegs

@[expose] public section

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state -/

theorem ownSemFacts : Pipeline.OwnSemFacts cfg0.spec osem := by decide +kernel

theorem share_eq (c : Dev nD) (w : Fin cfg0.W) : (dats m 0 c).share w = fullShare := by unfold Dat.share; split <;> rfl

/-- The exchange's cells, and the tokens of their duties: fifteen at a barrier, one at each copy's semaphore. -/
def exCells : Finset (GSem nD τ sig) := Finset.univ.map ⟨kcell, kcell_injective⟩
def tokOf : Dev nD × (Fin 15 ⊕ (Fin 15 ⊕ Fin 15)) → GSem nD τ sig × ℕ × Fin 15
  | (c, .inl r) => (kcell (c, barW), 0, r)
  | (c, .inr k) => (kcell (c, .inr k), 0, 0)
theorem tokOf_injective : Function.Injective tokOf := by
  rintro ⟨c, j⟩ ⟨c', j'⟩ h
  have hc : (tokOf (c, j)).1 = (tokOf (c', j')).1 := congrArg Prod.fst h
  have hd : (tokOf (c, j)).2.2 = (tokOf (c', j')).2.2 := congrArg (fun x => x.2.2) h
  rcases j with r | k <;> rcases j' with r' | k'
  · obtain ⟨rfl, -⟩ := kcell_eq_iff.mp hc
    obtain rfl : r = r' := hd
    rfl
  · exact absurd (kcell_eq_iff.mp hc).2 (fun h' => by cases h')
  · exact absurd (kcell_eq_iff.mp hc).2 (fun h' => by cases h')
  · obtain ⟨rfl, h'⟩ := kcell_eq_iff.mp hc
    cases h'; rfl
def exToks : Finset (GSem nD τ sig × ℕ × Fin 15) := Finset.univ.map ⟨tokOf, tokOf_injective⟩

/-- The launch's ghost element. -/
def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun r => dutyTok ER (kcell (c, barW)) 0 r)
    ∗ (bigSep Finset.univ fun r => dutyTok ER (kcell (c, sndW r)) 0 0)
    ∗ bigSep Finset.univ fun r => dutyTok ER (kcell (c, rcvW r)) 0 0)

/-- What the launch element deals device `c`, and what the step for all devices makes of it. -/
def G (c : Dev nD) : sProp 𝕄 :=
  iprop((bigSep Finset.univ fun k : Which => roundState ER (Rd m) (kcell (c, k)) 0)
    ∗ (bigSep Finset.univ fun k : Which => iprop(atPos ER (kcell (c, k)) 0 ∅ 0 ∗ reached ER (kcell (c, k)) 0)) ∗ toks c)
def G' (c : Dev nD) : sProp 𝕄 := iprop(∃ K, ghost m K c)

theorem fund_exchange : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Which => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore; with the kernel's own they are the exchange's. -/
theorem unscopedSems0_eq (c : Dev nD) : (unscopedSems0 c : sProp 𝕄) = semVal (kcell (c, barW)) 0 := by
  unfold unscopedSems0; rw [bigSep_eq_bigSepL_of_eq [SemLoc.reg barS] (by decide) (by decide)]; rfl
theorem sems0_eq (c : Dev nD) :
    (bigSep Finset.univ fun k : Which => semVal (kcell (c, k)) 0 : sProp 𝕄)
      = iprop(unscopedSems0 c ∗ Pipeline.ownSems0 (Ix := Unit) (Name := ℕ) (U := UU) (Lvl := ℕ) (Val := Elt F) (τ := τ) osem c) := by
  rw [bigSep_univ_sum, bigSep_univ_of_subsingleton (), unscopedSems0_eq]; rfl

/-- Every cell of device `c` allocated as an invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Which => semVal (kcell (c, k)) 0) ∗ bigSep Finset.univ fun k : Which => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions and the tokens of the duties it pays. -/
def linear (c : Dev nD) : sProp 𝕄 := iprop((bigSep Finset.univ fun k : Which => atPos ER (kcell (c, k)) 0 ∅ 0) ∗ payToks c)

theorem ghost_intro (K : Dev nD × Which → ℕ) (c : Dev nD) : iprop(records m K ∗ linear c) ⊢ G' m c := by
  unfold linear G' ghost
  iintro ⟨HR, Hat, Ht⟩
  iexists K
  isplitl [HR]; · iexact HR
  isplitl [Hat] <;> iassumption

/-- A family over the devices and the steps, each step's turned by that step. -/
theorem around (Φ : Dev nD → Fin 15 → sProp 𝕄) :
    (bigSep Finset.univ fun c => bigSep Finset.univ fun r => Φ c r) = bigSep Finset.univ fun c => bigSep Finset.univ fun r => Φ (dest c r) r := by
  rw [bigSep_univ_comm, bigSep_univ_comm (fun c r => Φ (dest c r) r)]
  exact bigSep_congr fun r _ => bigSep_univ_equiv (turn r) fun c => Φ c r

/-- The tokens dealt to the devices that pay them. -/
theorem toks_around : (bigSep Finset.univ fun c : Dev nD => (toks c : sProp 𝕄)) = bigSep Finset.univ fun c : Dev nD => payToks c := by
  unfold toks payToks
  rw [bigSep_sep', bigSep_sep', bigSep_sep', bigSep_sep', around (fun c r => dutyTok ER (kcell (c, barW)) 0 r),
    around (fun c r => dutyTok ER (kcell (c, rcvW r)) 0 0)]

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Which => iprop(∃ κ : ℕ, cellInv ER (Rd m) κ (kcell ck))),
    bigSep_congr (s := Finset.univ) (fun (c : Dev nD) _ => bigSep_sep' Finset.univ (fun k : Which => (atPos ER (kcell (c, k)) 0 ∅ 0 : sProp 𝕄)) (fun k => reached ER (kcell (c, k)) 0)),
    bigSep_sep', ← bigSep_univ_prod (fun ck : Dev nD × Which => (reached ER (kcell ck) 0 : sProp 𝕄)), toks_around]
  iintro ⟨HI, ⟨Hat, #HR⟩, Htok⟩
  ihave HK := (BI.bigSep_exists_pi Finset.univ (fun (ck : Dev nD × Which) (κ : ℕ) => (cellInv ER (Rd m) κ (kcell ck) : sProp 𝕄))) $$ HI
  icases HK with ⟨%K, #HI⟩
  iapply (bigSep_with_persistent (R := records m K) fun c _ => ghost_intro m K c)
  isplitr
  · unfold records; isplitl; · iexact HI
    iexact HR
  · unfold linear; rw [bigSep_sep']
    isplitl [Hat] <;> iassumption

/-- The step for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Together the devices owe each barrier one unit per step, each receive semaphore one block. -/
theorem owedSnd_sum (c : Dev nD) (r : Fin 15) : ∀ l : List (Fin 15), (∑ d : Dev nD, owedSnd d l (kcell (c, rcvW r)) ()) = l.count r * N
  | [] => by simp [owedSnd]
  | s :: l => by
    have h (d : Dev nD) : owedSnd d (s :: l) (kcell (c, rcvW r)) () = owedSnd d l (kcell (c, rcvW r)) () + if d = orig c s then (if s = r then N else 0) else 0 := by
      show owedSnd d l (kcell (c, rcvW r)) () + (tallyAt (kcell (dest d s, rcvW s)) () N : CellTallies nD τ sig Unit) (kcell (c, rcvW r)) () = _
      rw [tallyAt_apply]
      congr 1
      by_cases hs : s = r
      · subst hs
        by_cases hd : d = orig c s
        · rw [if_pos ⟨by rw [hd, dest_orig], rfl⟩, if_pos hd, if_pos rfl]
        · rw [if_neg (fun h' => hd (by rw [(kcell_eq_iff.mp h'.1).1, orig_dest])), if_neg hd]
      · rw [if_neg (fun h' => hs (by have := (kcell_eq_iff.mp h'.1).2; cases this; rfl)), if_neg hs]; split <;> rfl
    rw [Finset.sum_congr rfl fun d _ => h d, Finset.sum_add_distrib, owedSnd_sum c r l, Finset.sum_ite_eq' Finset.univ (orig c s) fun _ => if s = r then N else 0,
      if_pos (Finset.mem_univ _), List.count_cons]
    by_cases hs : s = r
    · rw [if_pos hs, if_pos (by simpa using hs), Nat.add_one_mul]
    · rw [if_neg hs, if_neg (by simpa using hs), Nat.add_zero, Nat.add_zero]

theorem owedSig_rcv (d c : Dev nD) (r : Fin 15) : ∀ l : List (Fin 15), owedSig d l (kcell (c, rcvW r)) () = owedSnd d steps (kcell (c, rcvW r)) ()
  | [] => rfl
  | s :: l => by
    show owedSig d l (kcell (c, rcvW r)) () + (tallyAt (kcell (dest d s, barW)) () 1 : CellTallies nD τ sig Unit) (kcell (c, rcvW r)) () = _
    rw [tallyAt_apply, if_neg (fun h' => by have := (kcell_eq_iff.mp h'.1).2; cases this), owedSig_rcv d c r l]; rfl

theorem owedSnd_bar (d c : Dev nD) : ∀ l : List (Fin 15), owedSnd d l (kcell (c, barW)) () = 0
  | [] => rfl
  | s :: l => by
    show owedSnd d l (kcell (c, barW)) () + (tallyAt (kcell (dest d s, rcvW s)) () N : CellTallies nD τ sig Unit) (kcell (c, barW)) () = _
    rw [tallyAt_apply, if_neg (fun h' => by have := (kcell_eq_iff.mp h'.1).2; cases this), owedSnd_bar d c l]

theorem owedSig_sum (c : Dev nD) : ∀ l : List (Fin 15), (∑ d : Dev nD, owedSig d l (kcell (c, barW)) ()) = l.length
  | [] => by
    show (∑ d : Dev nD, owedSnd d steps (kcell (c, barW)) ()) = 0
    exact Finset.sum_eq_zero fun d _ => owedSnd_bar d c steps
  | s :: l => by
    have h (d : Dev nD) : owedSig d (s :: l) (kcell (c, barW)) () = owedSig d l (kcell (c, barW)) () + if d = orig c s then 1 else 0 := by
      show owedSig d l (kcell (c, barW)) () + (tallyAt (kcell (dest d s, barW)) () 1 : CellTallies nD τ sig Unit) (kcell (c, barW)) () = _
      rw [tallyAt_apply]
      congr 1
      by_cases hd : d = orig c s
      · rw [if_pos ⟨by rw [hd, dest_orig], rfl⟩, if_pos hd]
      · rw [if_neg (fun h' => hd (by rw [(kcell_eq_iff.mp h'.1).1, orig_dest])), if_neg hd]
    rw [Finset.sum_congr rfl fun d _ => h d, Finset.sum_add_distrib, owedSig_sum c l, Finset.sum_ite_eq' Finset.univ (orig c s) fun _ => 1,
      if_pos (Finset.mem_univ _)]; rfl

theorem launch_bar (c : Dev nD) :
    tallyOn (kcell (c, barW)) (launchCredit (Pipeline.owing O₀) 0 (kcell (c, barW))) = (tallyAt (kcell (c, barW)) () 15 : CellTallies nD τ sig Unit) := by
  unfold tallyAt; refine congrArg _ (Finsupp.ext fun u => ?_); cases u
  rw [Pipeline.launchCredit_owing, Finsupp.single_eq_same]
  exact owedSig_sum c steps
theorem launch_rcv (c : Dev nD) (r : Fin 15) :
    tallyOn (kcell (c, rcvW r)) (launchCredit (Pipeline.owing O₀) 0 (kcell (c, rcvW r))) = (tallyAt (kcell (c, rcvW r)) () N : CellTallies nD τ sig Unit) := by
  unfold tallyAt; refine congrArg _ (Finsupp.ext fun u => ?_); cases u
  rw [Pipeline.launchCredit_owing, Finsupp.single_eq_same]
  refine (Finset.sum_congr rfl fun d _ => owedSig_rcv d c r steps).trans ((owedSnd_sum c r steps).trans ?_)
  rw [show steps.count r = 1 from by revert r; decide, Nat.one_mul]

/-- The semaphores that are owed something, and their credit. -/
theorem creds (c : Dev nD) :
    (Pipeline.launchCred O₀ c : sProp 𝕄) ⊢ iprop(cred (tallyAt (kcell (c, barW)) () 15) ∗ bigSep Finset.univ fun r => cred (tallyAt (kcell (c, rcvW r)) () N)) := by
  unfold Pipeline.launchCred
  rw [bigSep_univ_at _ (SemLoc.reg barS)]
  refine BI.sep_mono (Entails.of_eq (congrArg cred (launch_bar c))) ?_
  refine (bigSep_subset (t := Finset.univ.map ⟨fun r => SemLoc.dma (rcvS r), fun r r' h => by
      have := csem_injective (a₁ := rcvW r) (a₂ := rcvW r') h; cases this; rfl⟩) fun s hs => ?_).trans ?_
  · obtain ⟨r, -, rfl⟩ := Finset.mem_map.mp hs
    refine Finset.mem_erase.mpr ⟨fun h => ?_, Finset.mem_univ _⟩
    have h' : SemLoc.dma (rcvS r) = SemLoc.reg barS := h
    exact nomatch h'
  · rw [bigSep_map]
    exact bigSep_mono fun r _ => Entails.of_eq (congrArg cred (launch_rcv c r))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  rw [sems0_eq]
  iintro ⟨Hr, Hu, Ho⟩
  isplitl [Hu]; · iexact Hu
  isplitl [Ho] <;> iassumption

theorem lev_stage : ∀ (w : Fin 5) (s : Fin (spec0 w).nbuf) (k : Which), csem k ≠ SemLoc.dma ((spec0 w).sem s) := by decide +kernel
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine mayWait_low c _ ?_ steps
      unfold which Function.partialInv
      rw [dif_neg (fun ⟨k, hk⟩ => lev_stage w s k hk)]; rfl
    · rw [show (dats m 0 c).owed ⟨_ + 1, ht⟩ = 0 from rfl, MayWait_zero]; iintro -; iempintro

/-! ## The run -/

/-- The arrays after the run. -/
def finalA (c : Dev nD) (w : Fin cfg0.W) : Buf (Elt F) ((cfg0.win w).arr.view.loc (c : Thread nD τ)) := (dats m 0 c).arrAt w cfg0.N

set_option maxRecDepth 8000 in
/-- For any float values, from any memory with zero counters: every weakly fair execution of the program on sixteen
    devices terminates, with every array at `finalA` and every semaphore counter at zero. -/
theorem run_main : θ_run defs (onTc (τ := τ) (main (F := F))) ⟨m, fun _ => 0, ρ⟩ (fun r =>
    (∀ (c : Dev nD) (w : Fin cfg0.W), r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An operand's array is as launched. -/
theorem finalA_in (c : Dev nD) (w : Fin cfg0.W) (hw : (cfg0.win w).isOut = false) :
    finalA m c w = m ((cfg0.win w).arr.view.loc (c : Thread nD τ)) := (dats (F := F) m 0 c).arrAt_in w hw _

/-- The frame claim's conclusion: the arguments unchanged on every device, every counter at zero. -/
theorem frame_all : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c 0).trans (finalA_in m c 0 rfl), (h.1 c 1).trans (finalA_in m c 1 rfl),
    (h.1 c 2).trans (finalA_in m c 2 rfl), (h.1 c 3).trans (finalA_in m c 3 rfl)⟩, h.2⟩) (run_main m ρ)

end Cert.KernelIdeal.Exchange

end
-- ==== Proof.KernelIdeal.Value.lean ====
/-
  What the run of the kernel leaves in the result array of every device, written with the arrays the program was launched
  with instead of the blocks the pipeline stages.
-/
module

public import proofs.«01_k».proof.Proof.KernelIdeal.Launch

@[expose] public section

noncomputable section

namespace Cert.KernelIdeal.Exchange

open Cert.KernelIdeal Cert.KernelIdeal.Gen

open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- At the one grid point every window's block is its whole array: the staged operands are the argument arrays. -/
theorem xAt_eq (c : Dev nD) : xAt m c = m ((c : Thread nD τ).loc main_arg0) :=
  show (win0_0.blk t0_0).view.read (Elt F) (m ((c : Thread nD τ).loc main_arg0)) = _ from Memref.read_access_unit_zero (Elt F) main_arg0 (funext fun a => by fin_cases a <;> decide) (fun a => by fin_cases a <;> decide) _
theorem wAt_eq (c : Dev nD) : wAt m c = m ((c : Thread nD τ).loc main_arg1) :=
  show (win0_1.blk t0_0).view.read (Elt F) (m ((c : Thread nD τ).loc main_arg1)) = _ from Memref.read_access_unit_zero (Elt F) main_arg1 (funext fun a => by fin_cases a <;> decide) (fun a => by fin_cases a <;> decide) _
theorem sxAt_eq (c : Dev nD) : sxAt m c = m ((c : Thread nD τ).loc main_arg2) :=
  show (win0_2.blk t0_0).view.read (Elt F) (m ((c : Thread nD τ).loc main_arg2)) = _ from Memref.read_access_unit_zero (Elt F) main_arg2 (funext fun a => by fin_cases a <;> decide) (fun a => by fin_cases a <;> decide) _
theorem swAt_eq (c : Dev nD) : swAt m c = m ((c : Thread nD τ).loc main_arg3) :=
  show (win0_3.blk t0_0).view.read (Elt F) (m ((c : Thread nD τ).loc main_arg3)) = _ from Memref.read_access_unit_zero (Elt F) main_arg3 (funext fun a => by fin_cases a <;> decide) (fun a => by fin_cases a <;> decide) _

/-- The result array after the run is what the exchange leaves in the result's staging buffer. -/
theorem finalA_out (c : Dev nD) : finalA m c 4 = outAt m c := by
  have hr : (win0_4.blk t0_0).view.read (Elt F) (finalA m c 4) = finalA m c 4 :=
    Memref.read_access_unit_zero (Elt F) main_v1 (funext fun a => by fin_cases a <;> decide) (fun a => by fin_cases a <;> decide) _
  rw [← hr]
  unfold finalA
  rw [show cfg0.N = (t0_0 : Fin cfg0.N).val + 1 from rfl, (dats m 0 c).arrAt_succ 4 t0_0,
    show (cfg0.win 4).flush t0_0 = true from by decide, if_pos rfl]
  exact View.read_write_univ _ _

/-- The run with the result array at the exchange's result and the arguments unchanged. -/
theorem run_value : θ_run defs (onTc (τ := τ) (main (F := F))) ⟨m, fun _ => 0, ρ⟩ (fun r => ∀ c : Dev nD,
    r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h.1 c 4).trans (finalA_out m c), (h.1 c 0).trans (finalA_in m c 0 rfl), (h.1 c 1).trans (finalA_in m c 1 rfl),
    (h.1 c 2).trans (finalA_in m c 2 rfl), (h.1 c 3).trans (finalA_in m c 3 rfl)⟩) (run_main m ρ)

end Cert.KernelIdeal.Exchange

end
-- ==== Proof.Whole.lean ====
/-
  The reference's run on its one device: the result array as one function of the argument arrays.
-/
module

public import proofs.«01_k».proof.Proof.Gen.ReferenceIdeal.Value

@[expose] public section

noncomputable section

namespace Cert.Whole

open Cert.ReferenceIdeal Cert.ReferenceIdeal.Gen

open Idealize.ShloMosaic
open Idealize.ShloMosaic.TcCoe
open Idealize.SL.Sem

variable {F : FTy → Type} [FloatOps F]

/-- The one index of a vector of one element. -/
abbrev i1 : S1.Idx := Shape.Idx.first (s := S1) (by decide)

/-- The scaled product of the whole operands. -/
def scaled (x : Vec F S4096x4096 .fp8e5m2) (w : Vec F S4096x2048 .fp8e5m2) (sx sw : Vec F S1 .f32) : Vec F S4096x2048 .f32 :=
  k0_pay1 x w (sx i1) (sw i1)

theorem corner : (![0, 0] : Fin 2 → Nat) = fun _ => 0 := funext fun a => by fin_cases a <;> rfl

theorem only (j : S1.Idx) : j = i1 := by
  funext a; apply Fin.ext
  fin_cases a
  have h : (j 0).val < 1 := (j 0).isLt
  have h' : (i1 0).val < 1 := (i1 0).isLt
  show (j 0).val = (i1 0).val
  omega

/-- The body's one store leaves the scaled product of the staged operands in the result's staging buffer. -/
theorem stored (c : Dev nD) (a0 : Memref sig .tc .vmem S4096x4096 .fp8e5m2) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole)
    (a4 : Memref sig .tc .vmem S4096x2048 .f32) (h4 : a4.IsWhole)
    (x : Vec F S4096x4096 .fp8e5m2) (w : Vec F S4096x2048 .fp8e5m2) (sx sw : Vec F S1 .f32) :
    out0_A_4 c a0 h0 a1 h1 a2 h2 a3 h3 a4 h4 x w sx sw = scaled x w sx sw := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x))
        (View.readAt (Elt F) a1.view (Rect.unit ![0, 0] S4096x2048.size inb_S4096x2048_S4096x2048_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x2048 .f32)) = _
  rw [View.canon_unit_zero corner, View.readAt_eq_ld, View.readAt_eq_ld, View.readAt_eq_ld, View.readAt_eq_ld, h0.read_unread, h1.read_unread,
    h2.read_unread, h3.read_unread, View.ld_unit_zero corner, View.ld_unit_zero corner]
  exact congrArg₂ (k0_pay1 x w) (congrArg sx (only _)) (congrArg sw (only _))

variable (m : (ℓ : Loc nD τ sig) → Buf (Elt F) ℓ) (ρ : Dev nD → PrngReg)

/-- The one grid point. -/
abbrev t₀ : Fin cfg0.N := ⟨0, by decide⟩

/-- The result array after the run. -/
theorem final (c : Dev nD) : (dats m 0 c).arrAt 4 cfg0.N
    = scaled (m ((c : Thread nD τ).loc main_arg0)) (m ((c : Thread nD τ).loc main_arg1)) (m ((c : Thread nD τ).loc main_arg2)) (m ((c : Thread nD τ).loc main_arg3)) := by
  have hr : (win0_4.blk t₀).view.read (Elt F) ((dats m 0 c).arrAt 4 cfg0.N) = (dats m 0 c).arrAt 4 cfg0.N :=
    Memref.read_access_unit_zero (Elt F) main_v0 (funext fun a => by fin_cases a <;> decide) (fun a => by fin_cases a <;> decide) _
  have e0 : iblk m c 0 t₀ = m ((c : Thread nD τ).loc main_arg0) :=
    Memref.read_access_unit_zero (Elt F) main_arg0 (funext fun a => by fin_cases a <;> decide) (fun a => by fin_cases a <;> decide) _
  have e1 : iblk m c 1 t₀ = m ((c : Thread nD τ).loc main_arg1) :=
    Memref.read_access_unit_zero (Elt F) main_arg1 (funext fun a => by fin_cases a <;> decide) (fun a => by fin_cases a <;> decide) _
  have e2 : iblk m c 2 t₀ = m ((c : Thread nD τ).loc main_arg2) :=
    Memref.read_access_unit_zero (Elt F) main_arg2 (funext fun a => by fin_cases a <;> decide) (fun a => by fin_cases a <;> decide) _
  have e3 : iblk m c 3 t₀ = m ((c : Thread nD τ).loc main_arg3) :=
    Memref.read_access_unit_zero (Elt F) main_arg3 (funext fun a => by fin_cases a <;> decide) (fun a => by fin_cases a <;> decide) _
  rw [← hr]
  refine (Cert.ReferenceIdeal.Value.blocks4 m c t₀ (by decide)).trans ?_
  rw [Cert.ReferenceIdeal.Value.flushed4_A, stored, e0, e1, e2, e3]
  rfl

/-- The reference's run: the result array is the scaled product of the arguments, which end unchanged. -/
theorem run : θ_run defs (onTc (τ := τ) (main (F := F))) ⟨m, fun _ => 0, ρ⟩ fun r => ∀ c : Dev nD,
      r.2.mem ((c : Thread nD τ).loc main_v0) = scaled (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.ReferenceIdeal.Value.run_blocks m ρ)

end Cert.Whole

end
-- ==== Proof.Blocks.lean ====
/-
  At exact arithmetic the kernel's result on every device is its block of columns of the reference's result.
-/
module

public import proofs.«01_k».proof.Proof.KernelIdeal.Value
public import proofs.«01_k».proof.Proof.Whole
public import Idealize.ShloMosaic.Lib.MatmulPlain
public import Idealize.ShloMosaic.Lib.Layout
public import Idealize.ShloMosaic.PureOps.Ideal

@[expose] public section

noncomputable section

namespace Cert.Blocks

open Idealize.ShloMosaic
open Idealize.ShloMosaic.TcCoe
open Idealize.ShloMosaic.ValueIdx
open scoped BigOperators

/-- The sum of products at row `r` and column `n`, from the accumulator's start value. -/
def entry {M : ℕ} (x : (⟨2, ![M, 4096]⟩ : Shape).Idx → EReal) (w : (⟨2, ![4096, 2048]⟩ : Shape).Idx → EReal) (r : Fin M) (n : Fin 2048) : EReal :=
  (FloatOps.ofBits (F := Ideal) .f32 0x00000000#32 : EReal) + ∑ k : Fin 4096, x (ix2 r k) * w (ix2 k n)

/-- An entry of a device's accumulator. -/
theorem kernel_entry (s t : EReal) (x : Vec Ideal Cert.KernelIdeal.S256x4096 .fp8e5m2) (w : Vec Ideal Cert.KernelIdeal.S4096x2048 .fp8e5m2) (r : Fin 256) (n : Fin 2048) :
    Cert.KernelIdeal.Gen.k0_pay2 (F := Ideal) (Cert.KernelIdeal.Gen.k0_pay1 (F := Ideal) s t x w) (ix2 r n) = entry x w r n * (s * t) := by
  unfold Cert.KernelIdeal.Gen.k0_pay2 Cert.KernelIdeal.Gen.k0_pay1
  dsimp only
  rw [shapeCast_self, shapeCast_self, shapeCast_self]
  exact congrArg (· * (s * t)) (Ideal.matmul_plain_apply (M := 256) (K := 4096) (N := 2048) (φ₁ := .bf16) (φ₂ := .bf16) none _ _ _ r n)

/-- An entry of the reference's result. -/
theorem whole_entry (x : Vec Ideal Cert.ReferenceIdeal.S4096x4096 .fp8e5m2) (w : Vec Ideal Cert.ReferenceIdeal.S4096x2048 .fp8e5m2)
    (sx sw : Vec Ideal Cert.ReferenceIdeal.S1 .f32) (r : Fin 4096) (n : Fin 2048) :
    Cert.Whole.scaled (F := Ideal) x w sx sw (ix2 r n) = entry x w r n * ((sx Cert.Whole.i1 : EReal) * sw Cert.Whole.i1) := by
  unfold Cert.Whole.scaled Cert.ReferenceIdeal.Gen.k0_pay1
  exact congrArg (· * ((sx Cert.Whole.i1 : EReal) * sw Cert.Whole.i1)) (Ideal.matmul_plain_apply (M := 4096) (K := 4096) (N := 2048) (φ₁ := .f32) (φ₂ := .f32) none _ _ _ r n)

/-- Row block `d` of an array of rows, at its own row `r`, is the whole array at row `256 d + r`. -/
theorem rows_at {α : Type} (h : Layout.Tiles (⟨2, ![256, 4096]⟩ : Shape) ⟨2, ![4096, 4096]⟩ 0 16) (d : Fin 16) (v : (⟨2, ![4096, 4096]⟩ : Shape).Idx → α)
    (r : Fin 256) (k : Fin 4096) (a : Fin 4096) (ha : a.val = 256 * d.val + r.val) :
    Layout.block ⟨2, ![256, 4096]⟩ ⟨2, ![4096, 4096]⟩ 0 16 d v h (ix2 r k) = v (ix2 a k) := by
  rw [Layout.block_apply]
  congr 1
  funext b; apply Fin.ext
  rw [Layout.Tiles.idx_val]
  fin_cases b
  · show d.val * 256 + r.val = a.val; omega
  · rfl

/-- Column block `c` of an array, at its own column `n`, is the whole array at column `128 c + n`. -/
theorem cols_at {α : Type} (h : Layout.Tiles (⟨2, ![4096, 128]⟩ : Shape) ⟨2, ![4096, 2048]⟩ 1 16) (c : Fin 16) (v : (⟨2, ![4096, 2048]⟩ : Shape).Idx → α)
    (r : Fin 4096) (n : Fin 128) (a : Fin 2048) (ha : a.val = 128 * c.val + n.val) :
    Layout.block ⟨2, ![4096, 128]⟩ ⟨2, ![4096, 2048]⟩ 1 16 c v h (ix2 r n) = v (ix2 r a) := by
  rw [Layout.block_apply]
  congr 1
  funext b; apply Fin.ext
  rw [Layout.Tiles.idx_val]
  fin_cases b
  · rfl
  · show c.val * 128 + n.val = a.val; omega

section

open Cert.KernelIdeal Cert.KernelIdeal.Exchange

variable (m : (ℓ : Loc nD τ sig) → Buf (Elt Ideal) ℓ)

/-- From launches that agree on the operands, every device's result is its block of columns of the scaled product of the whole
    operands. -/
theorem out_block (x : Vec Ideal Cert.ReferenceIdeal.S4096x4096 .fp8e5m2) (w : Vec Ideal Cert.ReferenceIdeal.S4096x2048 .fp8e5m2)
    (sx sw : Vec Ideal Cert.ReferenceIdeal.S1 .f32)
    (hx : ∀ c : Dev nD, m ((c : Thread nD τ).loc main_arg0) = Layout.block ⟨2, ![256, 4096]⟩ ⟨2, ![4096, 4096]⟩ 0 16 c x)
    (hw : ∀ c : Dev nD, m ((c : Thread nD τ).loc main_arg1) = w) (hsx : ∀ c : Dev nD, m ((c : Thread nD τ).loc main_arg2) = sx)
    (hsw : ∀ c : Dev nD, m ((c : Thread nD τ).loc main_arg3) = sw) (c : Dev nD) :
    outAt m c = Layout.block ⟨2, ![4096, 128]⟩ ⟨2, ![4096, 2048]⟩ 1 16 c (Cert.Whole.scaled (F := Ideal) x w sx sw) := by
  funext i
  obtain ⟨a, b, rfl⟩ : ∃ a b, i = ix2 a b := ⟨_, _, eq_ix2 i⟩
  have hc : c.val < 16 := c.isLt
  have hd : a.val / 256 < 16 := by have := a.isLt; omega
  have hn : 128 * c.val + b.val < 2048 := by have := b.isLt; omega
  have hr : a.val % 256 < 256 := Nat.mod_lt _ (by decide)
  have ha : a.val = 256 * (a.val / 256) + a.val % 256 := (Nat.div_add_mod a.val 256).symm
  rw [cols_at _ c _ a b ⟨128 * c.val + b.val, hn⟩ rfl, whole_entry,
    ← outAt_at m c (⟨a.val / 256, hd⟩ : Dev nD) (ix2 ⟨a.val % 256, hr⟩ b) (ix2 a b) (ix2 ⟨a.val % 256, hr⟩ ⟨128 * c.val + b.val, hn⟩) ha rfl rfl rfl]
  unfold accAt
  rw [kernel_entry, sxAt_eq, swAt_eq, xAt_eq, wAt_eq, hx, hw, hsx, hsw]
  congr 1
  unfold entry
  congr 1
  exact Finset.sum_congr rfl fun k _ => congrArg (· * w (ix2 k ⟨128 * c.val + b.val, hn⟩)) (rows_at _ _ x _ k a ha)

end

end Cert.Blocks

end
-- ==== Proof.lean ====
/-
  The claim of this certificate. The kernel's exchange is proved once for any float values (the KernelIdeal modules, and the
  same text over the program as printed, the Kernel modules); its run gives both frames, and at exact arithmetic the value
  claim, by comparison with the reference's run (Whole) block of columns by block of columns (Blocks).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Launch
public import proofs.«01_k».proof.Proof.Blocks
public import Idealize.ShloMosaic.Adequacy
public import Idealize.ShloMosaic.Init

@[expose] public section

noncomputable section

namespace Cert.Proof

open Idealize.ShloMosaic Idealize.SL.Sem

/-- The program as printed terminates on all devices, its arguments unchanged and its counters at zero. -/
theorem frame_kernel : Cert.quiescent_Kernel (hKernel := Cert.Kernel.Gen.facts) := fun m ρ _ => Cert.Kernel.Exchange.frame_all (F := Bits) m ρ

/-- So does the same text read at exact arithmetic. -/
theorem frame_ideal : Cert.quiescent_KernelIdeal (hKernelIdeal := Cert.KernelIdeal.Gen.facts) := fun m ρ _ => Cert.KernelIdeal.Exchange.frame_all (F := Ideal) m ρ

/-- So does the reference on its one device. -/
theorem frame_reference : Cert.quiescent_ReferenceIdeal (hReferenceIdeal := Cert.ReferenceIdeal.Gen.facts) := fun m ρ _ => Cert.ReferenceIdeal.Gen.frame m ρ

/-- At exact arithmetic every device's result is its block of columns of the reference's result. -/
theorem value : Cert.algebraic_KernelIdeal_ReferenceIdeal (hKernelIdeal := Cert.KernelIdeal.Gen.facts) (hReferenceIdeal := Cert.ReferenceIdeal.Gen.facts) := by
  intro m ρ m' ρ' _ h
  refine ⟨Cert.Whole.scaled (F := Ideal) (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2))
    (m' (((0 : Dev Cert.ReferenceIdeal.nD).tc : Thread _ Cert.ReferenceIdeal.τ).loc Cert.ReferenceIdeal.main_arg3)), ?_, ?_⟩
  · exact (θ_run Cert.KernelIdeal.defs _ _).mono
      (fun _ hr c => ⟨(hr c).1.trans (Cert.Blocks.out_block m _ _ _ _ (fun c => (h c).1) (fun c => (h c).2.1) (fun c => (h c).2.2.1) (fun c => (h c).2.2.2) c), (hr c).2⟩)
      (Cert.KernelIdeal.Exchange.run_value (F := Ideal) m ρ)
  · exact (θ_run Cert.ReferenceIdeal.defs _ _).mono (fun _ hr => hr 0) (Cert.Whole.run (F := Ideal) m' ρ')

/-- The certificate's claim. -/
theorem claim : Cert.Claim :=
  ⟨Cert.Kernel.Gen.facts, Cert.KernelIdeal.Gen.facts, Cert.ReferenceIdeal.Gen.facts, frame_kernel, frame_ideal, frame_reference, trivial, value⟩

end Cert.Proof

end
